-- ==== Defs.lean ====
def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_act_finite [hPre_act_finite : Cert.Pre_act_finite.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).2.1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).2.2.1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_FinalSum (m : (ℓ : Loc Cert.FinalSum.nD Cert.FinalSum.τ Cert.FinalSum.sig) → Buf (Elt Bits) ℓ) : Prop :=
  True

def Pre_FinalSumIdeal (m : (ℓ : Loc Cert.FinalSumIdeal.nD Cert.FinalSumIdeal.τ Cert.FinalSumIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActBwdIdeal_pre_act_finite [hActBwdIdeal : Cert.ActBwdIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_act_finite m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_FinalSum [hFinalSum : Cert.FinalSum.Facts] : Prop :=
  ∀ (m : (ℓ : Loc Cert.FinalSum.nD Cert.FinalSum.τ Cert.FinalSum.sig) → Buf (Elt Bits) ℓ) (g : Dev Cert.FinalSum.nD → PrngReg), Pre_FinalSum m →
    θ_run (Cert.FinalSum.defs (F := Bits)) (onTc (τ := Cert.FinalSum.τ) (Cert.FinalSum.main (F := Bits))) ⟨m, fun _ => 0, g⟩ (fun r => (∀ c : Dev Cert.FinalSum.nD,
      r.2.mem ((c.tc : Thread Cert.FinalSum.nD Cert.FinalSum.τ).loc Cert.FinalSum.main_arg0) = m ((c.tc : Thread Cert.FinalSum.nD Cert.FinalSum.τ).loc Cert.FinalSum.main_arg0)
      ∧ r.2.mem ((c.tc : Thread Cert.FinalSum.nD Cert.FinalSum.τ).loc Cert.FinalSum.main_arg1) = m ((c.tc : Thread Cert.FinalSum.nD Cert.FinalSum.τ).loc Cert.FinalSum.main_arg1))
      ∧ r.2.sem = fun _ => 0)

def quiescent_FinalSumIdeal [hFinalSumIdeal : Cert.FinalSumIdeal.Facts] : Prop :=
  ∀ (m : (ℓ : Loc Cert.FinalSumIdeal.nD Cert.FinalSumIdeal.τ Cert.FinalSumIdeal.sig) → Buf (Elt Ideal) ℓ) (g : Dev Cert.FinalSumIdeal.nD → PrngReg), Pre_FinalSumIdeal m →
    θ_run (Cert.FinalSumIdeal.defs (F := Ideal)) (onTc (τ := Cert.FinalSumIdeal.τ) (Cert.FinalSumIdeal.main (F := Ideal))) ⟨m, fun _ => 0, g⟩ (fun r => (∀ c : Dev Cert.FinalSumIdeal.nD,
      r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
      ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2))
      ∧ r.2.sem = fun _ => 0)

def preserves_UpBwd_UpBwdIdeal : Prop :=
  True

def algebraic_UpBwdIdeal_UpRefIdeal [hUpBwdIdeal : Cert.UpBwdIdeal.Facts] [hUpRefIdeal : Cert.UpRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpBwdIdeal m →
    (∀ c : Dev Cert.UpBwdIdeal.nD,
      m' ((c.tc : Thread Cert.UpRefIdeal.nD Cert.UpRefIdeal.τ).loc Cert.UpRefIdeal.main_arg0) = m ((c.tc : Thread Cert.UpBwdIdeal.nD Cert.UpBwdIdeal.τ).loc Cert.UpBwdIdeal.main_arg0)
      ∧ m' ((c.tc : Thread Cert.UpRefIdeal.nD Cert.UpRefIdeal.τ).loc Cert.UpRefIdeal.main_arg1) = m ((c.tc : Thread Cert.UpBwdIdeal.nD Cert.UpBwdIdeal.τ).loc Cert.UpBwdIdeal.main_arg1)
      ∧ m' ((c.tc : Thread Cert.UpRefIdeal.nD Cert.UpRefIdeal.τ).loc Cert.UpRefIdeal.main_arg2) = m ((c.tc : Thread Cert.UpBwdIdeal.nD Cert.UpBwdIdeal.τ).loc Cert.UpBwdIdeal.main_arg2)
      ∧ m' ((c.tc : Thread Cert.UpRefIdeal.nD Cert.UpRefIdeal.τ).loc Cert.UpRefIdeal.main_arg3) = m ((c.tc : Thread Cert.UpBwdIdeal.nD Cert.UpBwdIdeal.τ).loc Cert.UpBwdIdeal.main_arg3)
      ∧ m' ((c.tc : Thread Cert.UpRefIdeal.nD Cert.UpRefIdeal.τ).loc Cert.UpRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v11_0)) (v1 : (c : Dev Cert.UpBwdIdeal.nD) → Buf (Elt Ideal) ((c.tc : Thread Cert.UpBwdIdeal.nD Cert.UpBwdIdeal.τ).loc Cert.UpBwdIdeal.main_v11_1)) (v2 : (c : Dev Cert.UpBwdIdeal.nD) → Buf (Elt Ideal) ((c.tc : Thread Cert.UpBwdIdeal.nD Cert.UpBwdIdeal.τ).loc Cert.UpBwdIdeal.main_v11_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v11_0) = v0 c
          ∧ r.2.mem ((c.tc : Thread Cert.UpBwdIdeal.nD Cert.UpBwdIdeal.τ).loc Cert.UpBwdIdeal.main_v11_1) = v1 c
          ∧ r.2.mem ((c.tc : Thread Cert.UpBwdIdeal.nD Cert.UpBwdIdeal.τ).loc Cert.UpBwdIdeal.main_v11_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v43) = v0 c
          ∧ r.2.mem ((c.tc : Thread Cert.UpRefIdeal.nD Cert.UpRefIdeal.τ).loc Cert.UpRefIdeal.main_v45) = v1 c
          ∧ r.2.mem ((c.tc : Thread Cert.UpRefIdeal.nD Cert.UpRefIdeal.τ).loc Cert.UpRefIdeal.main_v42) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)) →
    ∃ (v0 : (c : Dev Cert.LossBwdIdeal.nD) → Buf (Elt Ideal) ((c.tc : Thread Cert.LossBwdIdeal.nD Cert.LossBwdIdeal.τ).loc Cert.LossBwdIdeal.main_v6_0)) (v1 : (c : Dev Cert.LossBwdIdeal.nD) → Buf (Elt Ideal) ((c.tc : Thread Cert.LossBwdIdeal.nD Cert.LossBwdIdeal.τ).loc Cert.LossBwdIdeal.main_v6_1)) (v2 : (c : Dev Cert.LossBwdIdeal.nD) → Buf (Elt Ideal) ((c.tc : Thread Cert.LossBwdIdeal.nD Cert.LossBwdIdeal.τ).loc Cert.LossBwdIdeal.main_v12)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v6_0) = v0 c
          ∧ r.2.mem ((c.tc : Thread Cert.LossBwdIdeal.nD Cert.LossBwdIdeal.τ).loc Cert.LossBwdIdeal.main_v6_1) = v1 c
          ∧ r.2.mem ((c.tc : Thread Cert.LossBwdIdeal.nD Cert.LossBwdIdeal.τ).loc Cert.LossBwdIdeal.main_v12) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v20) = v1 c
          ∧ r.2.mem ((c.tc : Thread Cert.LossRefIdeal.nD Cert.LossRefIdeal.τ).loc Cert.LossRefIdeal.main_v21) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_ActBwd_ActBwdIdeal : Prop :=
  True

def algebraic_ActBwdIdeal_ActRefIdeal_pre_act_finite [hActBwdIdeal : Cert.ActBwdIdeal.Facts] [hActRefIdeal : Cert.ActRefIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActBwdIdeal_act_finite m →
    (∀ c : Dev Cert.ActBwdIdeal.nD,
      m' ((c.tc : Thread Cert.ActRefIdeal.nD Cert.ActRefIdeal.τ).loc Cert.ActRefIdeal.main_arg0) = m ((c.tc : Thread Cert.ActBwdIdeal.nD Cert.ActBwdIdeal.τ).loc Cert.ActBwdIdeal.main_arg0)
      ∧ m' ((c.tc : Thread Cert.ActRefIdeal.nD Cert.ActRefIdeal.τ).loc Cert.ActRefIdeal.main_arg1) = m ((c.tc : Thread Cert.ActBwdIdeal.nD Cert.ActBwdIdeal.τ).loc Cert.ActBwdIdeal.main_arg1)
      ∧ m' ((c.tc : Thread Cert.ActRefIdeal.nD Cert.ActRefIdeal.τ).loc Cert.ActRefIdeal.main_arg2) = m ((c.tc : Thread Cert.ActBwdIdeal.nD Cert.ActBwdIdeal.τ).loc Cert.ActBwdIdeal.main_arg2)
      ∧ m' ((c.tc : Thread Cert.ActRefIdeal.nD Cert.ActRefIdeal.τ).loc Cert.ActRefIdeal.main_arg3) = m ((c.tc : Thread Cert.ActBwdIdeal.nD Cert.ActBwdIdeal.τ).loc Cert.ActBwdIdeal.main_arg3)) →
    ∃ (v0 : (c : Dev Cert.ActBwdIdeal.nD) → Buf (Elt Ideal) ((c.tc : Thread Cert.ActBwdIdeal.nD Cert.ActBwdIdeal.τ).loc Cert.ActBwdIdeal.main_v44_0)) (v1 : (c : Dev Cert.ActBwdIdeal.nD) → Buf (Elt Ideal) ((c.tc : Thread Cert.ActBwdIdeal.nD Cert.ActBwdIdeal.τ).loc Cert.ActBwdIdeal.main_v44_1)) (v2 : (c : Dev Cert.ActBwdIdeal.nD) → Buf (Elt Ideal) ((c.tc : Thread Cert.ActBwdIdeal.nD Cert.ActBwdIdeal.τ).loc Cert.ActBwdIdeal.main_v44_2)) (v3 : (c : Dev Cert.ActBwdIdeal.nD) → Buf (Elt Ideal) ((c.tc : Thread Cert.ActBwdIdeal.nD Cert.ActBwdIdeal.τ).loc Cert.ActBwdIdeal.main_v44_3)) (v4 : (c : Dev Cert.ActBwdIdeal.nD) → Buf (Elt Ideal) ((c.tc : Thread Cert.ActBwdIdeal.nD Cert.ActBwdIdeal.τ).loc Cert.ActBwdIdeal.main_v44_4)) (v5 : (c : Dev Cert.ActBwdIdeal.nD) → Buf (Elt Ideal) ((c.tc : Thread Cert.ActBwdIdeal.nD Cert.ActBwdIdeal.τ).loc Cert.ActBwdIdeal.main_v44_5)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v44_0) = v0 c
          ∧ r.2.mem ((c.tc : Thread Cert.ActBwdIdeal.nD Cert.ActBwdIdeal.τ).loc Cert.ActBwdIdeal.main_v44_1) = v1 c
          ∧ r.2.mem ((c.tc : Thread Cert.ActBwdIdeal.nD Cert.ActBwdIdeal.τ).loc Cert.ActBwdIdeal.main_v44_2) = v2 c
          ∧ r.2.mem ((c.tc : Thread Cert.ActBwdIdeal.nD Cert.ActBwdIdeal.τ).loc Cert.ActBwdIdeal.main_v44_3) = v3 c
          ∧ r.2.mem ((c.tc : Thread Cert.ActBwdIdeal.nD Cert.ActBwdIdeal.τ).loc Cert.ActBwdIdeal.main_v44_4) = v4 c
          ∧ r.2.mem ((c.tc : Thread Cert.ActBwdIdeal.nD Cert.ActBwdIdeal.τ).loc Cert.ActBwdIdeal.main_v44_5) = v5 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v81) = v0 c
          ∧ r.2.mem ((c.tc : Thread Cert.ActRefIdeal.nD Cert.ActRefIdeal.τ).loc Cert.ActRefIdeal.main_v84) = v1 c
          ∧ r.2.mem ((c.tc : Thread Cert.ActRefIdeal.nD Cert.ActRefIdeal.τ).loc Cert.ActRefIdeal.main_v85) = v2 c
          ∧ r.2.mem ((c.tc : Thread Cert.ActRefIdeal.nD Cert.ActRefIdeal.τ).loc Cert.ActRefIdeal.main_v86) = v3 c
          ∧ r.2.mem ((c.tc : Thread Cert.ActRefIdeal.nD Cert.ActRefIdeal.τ).loc Cert.ActRefIdeal.main_v87) = v4 c
          ∧ r.2.mem ((c.tc : Thread Cert.ActRefIdeal.nD Cert.ActRefIdeal.τ).loc Cert.ActRefIdeal.main_v88) = v5 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_MixFwd_MixFwdIdeal : Prop :=
  IdealRules.named_const.Statement Cert.MixFwdIdeal.κ "mask" .f32 0xF149F2CA#32 ⊥

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v49)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v49) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v195) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v16) = v0 c
          ∧ r.2.mem ((c.tc : Thread Cert.InFwdRefIdeal.nD Cert.InFwdRefIdeal.τ).loc Cert.InFwdRefIdeal.main_v18) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v5_0)) (v1 : (c : Dev Cert.OutFwdIdeal.nD) → Buf (Elt Ideal) ((c.tc : Thread Cert.OutFwdIdeal.nD Cert.OutFwdIdeal.τ).loc Cert.OutFwdIdeal.main_v5_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v5_0) = v0 c
          ∧ r.2.mem ((c.tc : Thread Cert.OutFwdIdeal.nD Cert.OutFwdIdeal.τ).loc Cert.OutFwdIdeal.main_v5_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v17) = v0 c
          ∧ r.2.mem ((c.tc : Thread Cert.OutFwdRefIdeal.nD Cert.OutFwdRefIdeal.τ).loc Cert.OutFwdRefIdeal.main_v19) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v5)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v5) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownBwd_DownBwdIdeal : Prop :=
  True

def algebraic_DownBwdIdeal_DownRefIdeal [hDownBwdIdeal : Cert.DownBwdIdeal.Facts] [hDownRefIdeal : Cert.DownRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownBwdIdeal m →
    (∀ c : Dev Cert.DownBwdIdeal.nD,
      m' ((c.tc : Thread Cert.DownRefIdeal.nD Cert.DownRefIdeal.τ).loc Cert.DownRefIdeal.main_arg0) = m ((c.tc : Thread Cert.DownBwdIdeal.nD Cert.DownBwdIdeal.τ).loc Cert.DownBwdIdeal.main_arg0)
      ∧ m' ((c.tc : Thread Cert.DownRefIdeal.nD Cert.DownRefIdeal.τ).loc Cert.DownRefIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v4)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v4) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_OutBwd_OutBwdIdeal : Prop :=
  True

def algebraic_OutBwdIdeal_OutRefIdeal [hOutBwdIdeal : Cert.OutBwdIdeal.Facts] [hOutRefIdeal : Cert.OutRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutBwdIdeal m →
    (∀ c : Dev Cert.OutBwdIdeal.nD,
      m' ((c.tc : Thread Cert.OutRefIdeal.nD Cert.OutRefIdeal.τ).loc Cert.OutRefIdeal.main_arg0) = m ((c.tc : Thread Cert.OutBwdIdeal.nD Cert.OutBwdIdeal.τ).loc Cert.OutBwdIdeal.main_arg0)
      ∧ m' ((c.tc : Thread Cert.OutRefIdeal.nD Cert.OutRefIdeal.τ).loc Cert.OutRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v4) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v8)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v8) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v5) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_1)) (v1 : (c : Dev Cert.AdamIdeal.nD) → Buf (Elt Ideal) ((c.tc : Thread Cert.AdamIdeal.nD Cert.AdamIdeal.τ).loc Cert.AdamIdeal.main_v4_2)) (v2 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_1) = v0 c
          ∧ r.2.mem ((c.tc : Thread Cert.AdamIdeal.nD Cert.AdamIdeal.τ).loc Cert.AdamIdeal.main_v4_2) = v1 c
          ∧ r.2.mem ((c.tc : Thread Cert.AdamIdeal.nD Cert.AdamIdeal.τ).loc Cert.AdamIdeal.main_v4_3) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_FinalSum_FinalSumIdeal : Prop :=
  True

def algebraic_FinalSumIdeal_FinalRefIdeal [hFinalSumIdeal : Cert.FinalSumIdeal.Facts] [hFinalRefIdeal : Cert.FinalRefIdeal.Facts] : Prop :=
  ∀ (m : (ℓ : Loc Cert.FinalSumIdeal.nD Cert.FinalSumIdeal.τ Cert.FinalSumIdeal.sig) → Buf (Elt Ideal) ℓ) (g : Dev Cert.FinalSumIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalSumIdeal m →
    (∀ c : Dev Cert.FinalSumIdeal.nD,
      m' ((c.tc : Thread Cert.FinalRefIdeal.nD Cert.FinalRefIdeal.τ).loc Cert.FinalRefIdeal.main_arg0) = m ((c.tc : Thread Cert.FinalSumIdeal.nD Cert.FinalSumIdeal.τ).loc Cert.FinalSumIdeal.main_arg0)
      ∧ m' ((c.tc : Thread Cert.FinalRefIdeal.nD Cert.FinalRefIdeal.τ).loc Cert.FinalRefIdeal.main_arg1) = m ((c.tc : Thread Cert.FinalSumIdeal.nD Cert.FinalSumIdeal.τ).loc Cert.FinalSumIdeal.main_arg1)) →
    ∃ (v0 : (c : Dev Cert.FinalSumIdeal.nD) → Buf (Elt Ideal) ((c.tc : Thread Cert.FinalSumIdeal.nD Cert.FinalSumIdeal.τ).loc Cert.FinalSumIdeal.main_v3)),
      θ_run (Cert.FinalSumIdeal.defs (F := Ideal)) (onTc (τ := Cert.FinalSumIdeal.τ) (Cert.FinalSumIdeal.main (F := Ideal))) ⟨m, fun _ => 0, g⟩ (fun r => ∀ c : Dev Cert.FinalSumIdeal.nD,
          r.2.mem ((c.tc : Thread Cert.FinalSumIdeal.nD Cert.FinalSumIdeal.τ).loc Cert.FinalSumIdeal.main_v3) = v0 c
          ∧ r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
          ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v11) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)) →
    ∃ (v0 : (c : Dev Cert.PackIdeal.nD) → Buf (Elt Ideal) ((c.tc : Thread Cert.PackIdeal.nD Cert.PackIdeal.τ).loc Cert.PackIdeal.main_v10)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v10) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v3) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2))

def Claim : Prop :=
  ∃ (hUpBwd : Cert.UpBwd.Facts) (hUpBwdIdeal : Cert.UpBwdIdeal.Facts) (hUpRefIdeal : Cert.UpRefIdeal.Facts) (hLossBwd : Cert.LossBwd.Facts) (hLossBwdIdeal : Cert.LossBwdIdeal.Facts) (hLossRefIdeal : Cert.LossRefIdeal.Facts) (hActBwd : Cert.ActBwd.Facts) (hActBwdIdeal : Cert.ActBwdIdeal.Facts) (hActRefIdeal : Cert.ActRefIdeal.Facts) (hMixFwd : Cert.MixFwd.Facts) (hMixFwdIdeal : Cert.MixFwdIdeal.Facts) (hMixFwdRefIdeal : Cert.MixFwdRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownBwd : Cert.DownBwd.Facts) (hDownBwdIdeal : Cert.DownBwdIdeal.Facts) (hDownRefIdeal : Cert.DownRefIdeal.Facts) (hOutBwd : Cert.OutBwd.Facts) (hOutBwdIdeal : Cert.OutBwdIdeal.Facts) (hOutRefIdeal : Cert.OutRefIdeal.Facts) (hUpWgrad : Cert.UpWgrad.Facts) (hUpWgradIdeal : Cert.UpWgradIdeal.Facts) (hUpWgradRefIdeal : Cert.UpWgradRefIdeal.Facts) (hAdam : Cert.Adam.Facts) (hAdamIdeal : Cert.AdamIdeal.Facts) (hAdamRefIdeal : Cert.AdamRefIdeal.Facts) (hFinalSum : Cert.FinalSum.Facts) (hFinalSumIdeal : Cert.FinalSumIdeal.Facts) (hFinalRefIdeal : Cert.FinalRefIdeal.Facts) (hPack : Cert.Pack.Facts) (hPackIdeal : Cert.PackIdeal.Facts) (hPackRefIdeal : Cert.PackRefIdeal.Facts) (hPre_act_finite : Cert.Pre_act_finite.Facts),
    quiescent_UpBwd (hUpBwd := hUpBwd)
    ∧ quiescent_UpBwdIdeal (hUpBwdIdeal := hUpBwdIdeal)
    ∧ quiescent_UpRefIdeal (hUpRefIdeal := hUpRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_ActBwd (hActBwd := hActBwd)
    ∧ quiescent_ActBwdIdeal (hActBwdIdeal := hActBwdIdeal)
    ∧ quiescent_ActBwdIdeal_pre_act_finite (hActBwdIdeal := hActBwdIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownBwd (hDownBwd := hDownBwd)
    ∧ quiescent_DownBwdIdeal (hDownBwdIdeal := hDownBwdIdeal)
    ∧ quiescent_DownRefIdeal (hDownRefIdeal := hDownRefIdeal)
    ∧ quiescent_OutBwd (hOutBwd := hOutBwd)
    ∧ quiescent_OutBwdIdeal (hOutBwdIdeal := hOutBwdIdeal)
    ∧ quiescent_OutRefIdeal (hOutRefIdeal := hOutRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_Adam (hAdam := hAdam)
    ∧ quiescent_AdamIdeal (hAdamIdeal := hAdamIdeal)
    ∧ quiescent_AdamRefIdeal (hAdamRefIdeal := hAdamRefIdeal)
    ∧ quiescent_FinalSum (hFinalSum := hFinalSum)
    ∧ quiescent_FinalSumIdeal (hFinalSumIdeal := hFinalSumIdeal)
    ∧ quiescent_FinalRefIdeal (hFinalRefIdeal := hFinalRefIdeal)
    ∧ quiescent_Pack (hPack := hPack)
    ∧ quiescent_PackIdeal (hPackIdeal := hPackIdeal)
    ∧ quiescent_PackRefIdeal (hPackRefIdeal := hPackRefIdeal)
    ∧ preserves_UpBwd_UpBwdIdeal
    ∧ algebraic_UpBwdIdeal_UpRefIdeal (hUpBwdIdeal := hUpBwdIdeal) (hUpRefIdeal := hUpRefIdeal)
    ∧ preserves_LossBwd_LossBwdIdeal
    ∧ algebraic_LossBwdIdeal_LossRefIdeal (hLossBwdIdeal := hLossBwdIdeal) (hLossRefIdeal := hLossRefIdeal)
    ∧ preserves_ActBwd_ActBwdIdeal
    ∧ algebraic_ActBwdIdeal_ActRefIdeal_pre_act_finite (hActBwdIdeal := hActBwdIdeal) (hActRefIdeal := hActRefIdeal) (hPre_act_finite := hPre_act_finite)
    ∧ preserves_MixFwd_MixFwdIdeal
    ∧ algebraic_MixFwdIdeal_MixFwdRefIdeal (hMixFwdIdeal := hMixFwdIdeal) (hMixFwdRefIdeal := hMixFwdRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownBwd_DownBwdIdeal
    ∧ algebraic_DownBwdIdeal_DownRefIdeal (hDownBwdIdeal := hDownBwdIdeal) (hDownRefIdeal := hDownRefIdeal)
    ∧ preserves_OutBwd_OutBwdIdeal
    ∧ algebraic_OutBwdIdeal_OutRefIdeal (hOutBwdIdeal := hOutBwdIdeal) (hOutRefIdeal := hOutRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_Adam_AdamIdeal
    ∧ algebraic_AdamIdeal_AdamRefIdeal (hAdamIdeal := hAdamIdeal) (hAdamRefIdeal := hAdamRefIdeal)
    ∧ preserves_FinalSum_FinalSumIdeal
    ∧ algebraic_FinalSumIdeal_FinalRefIdeal (hFinalSumIdeal := hFinalSumIdeal) (hFinalRefIdeal := hFinalRefIdeal)
    ∧ preserves_Pack_PackIdeal
    ∧ algebraic_PackIdeal_PackRefIdeal (hPackIdeal := hPackIdeal) (hPackRefIdeal := hPackRefIdeal)
-- ==== Pre_act_finite.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S_ : Shape := ⟨0, ![]⟩

class Facts : Prop where
  bcast_S_S1x2048x5632 : S_.BroadcastsInDim S1x2048x5632 (![] : Fin 0 → Fin S1x2048x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S1x2048x2816 : S_.BroadcastsInDim S1x2048x2816 (![] : Fin 0 → Fin S1x2048x2816.rank)

variable [Facts]

def fn {F : FTy → Type} [FloatOps F] (main_arg0 : FVec F S1x2048x5632 .f32) (main_arg1 : FVec F S1x3x5632 .f32) (main_arg2 : FVec F S1x5632 .f32) (main_arg3 : FVec F S1x2048x2816 .f32) : IVec S1x2048x5632 1 × IVec S1x3x5632 1 × IVec S1x5632 1 × IVec S1x2048x2816 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S1x3x5632 .f32 := Host.absf main_arg1
  let main_cst_0 : FVec F S_ .f32 := constant S_ .f32 0x7F800000#32
  let main_v4 : FVec F S1x3x5632 .f32 := broadcastInDim S1x3x5632 ![] bcast_S_S1x3x5632 main_cst_0
  let main_v5 : IVec S1x3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S1x2048x2816 .f32 := Host.absf main_arg3
  let main_cst_2 : FVec F S_ .f32 := constant S_ .f32 0x7F800000#32
  let main_v10 : FVec F S1x2048x2816 .f32 := broadcastInDim S1x2048x2816 ![] bcast_S_S1x2048x2816 main_cst_2
  let main_v11 : IVec S1x2048x2816 1 := cmpf .olt main_v9 main_v10
  (main_v2, main_v5, main_v8, main_v11)
-- ==== UpBwd.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1x2048x2816 : Shape := ⟨3, ![1, 2048, 2816]⟩
abbrev S2048x2816 : Shape := ⟨2, ![2048, 2816]⟩
abbrev S1024x5632 : Shape := ⟨2, ![1024, 5632]⟩
abbrev S5632x1024 : Shape := ⟨2, ![5632, 1024]⟩
abbrev S2048x1024 : Shape := ⟨2, ![2048, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S1x2048x2816, .f32⟩
  | .hbm, ⟨6, _⟩ => ⟨S2048x2816, .f32⟩
  | .hbm, ⟨7, _⟩ => ⟨S2048x2816, .bf16⟩
  | .hbm, ⟨8, _⟩ => ⟨S1x2048x2816, .f32⟩
  | .hbm, ⟨9, _⟩ => ⟨S2048x2816, .f32⟩
  | .hbm, ⟨10, _⟩ => ⟨S2048x2816, .bf16⟩
  | .hbm, ⟨11, _⟩ => ⟨S1024x5632, .f32⟩
  | .hbm, ⟨12, _⟩ => ⟨S5632x1024, .f32⟩
  | .hbm, ⟨13, _⟩ => ⟨S5632x1024, .bf16⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpRefIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S2048 : Shape := ⟨1, ![2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x5632, .f32⟩
  | .hbm, ⟨27, _⟩ => ⟨S1x2048x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== LossBwd.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S2048x2816 : Shape := ⟨2, ![2048, 2816]⟩
abbrev S2816x1024 : Shape := ⟨2, ![2816, 1024]⟩
abbrev S2048x1024 : Shape := ⟨2, ![2048, 1024]⟩
abbrev S8x128 : Shape := ⟨2, ![8, 128]⟩
abbrev S512x2816 : Shape := ⟨2, ![512, 2816]⟩
abbrev S512x1024 : Shape := ⟨2, ![512, 1024]⟩
abbrev S64x8x1024 : Shape := ⟨3, ![64, 8, 1024]⟩
abbrev S8x1024 : Shape := ⟨2, ![8, 1024]⟩
abbrev S_ : Shape := ⟨0, ![]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 22
  | .vmem => 12
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1x2048x1024, .f32⟩
  | .hbm, ⟨4, _⟩ => ⟨S2048x2816, .f32⟩
  | .hbm, ⟨5, _⟩ => ⟨S2048x2816, .bf16⟩
  | .hbm, ⟨6, _⟩ => ⟨S2816x1024, .f32⟩
  | .hbm, ⟨7, _⟩ => ⟨S2816x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S8x128, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S_, .f32⟩
  | .hbm, ⟨17, _⟩ => ⟨S1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S2816x1024 : Shape := ⟨2, ![2816, 1024]⟩
abbrev S_ : Shape := ⟨0, ![]⟩
abbrev S1x2048 : Shape := ⟨2, ![1, 2048]⟩
abbrev S2048x1024 : Shape := ⟨2, ![2048, 1024]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1x2048x1024, .f32⟩
  | .hbm, ⟨4, _⟩ => ⟨S2816x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S1x2048x1024, .f32⟩
  | .hbm, ⟨29, _⟩ => ⟨S1x2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S1x1, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== ActBwd.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S3x5632 : Shape := ⟨2, ![3, 5632]⟩
abbrev S_ : Shape := ⟨0, ![]⟩
abbrev S1x2x5632 : Shape := ⟨3, ![1, 2, 5632]⟩
abbrev S1x2050x5632 : Shape := ⟨3, ![1, 2050, 5632]⟩
abbrev S5632 : Shape := ⟨1, ![5632]⟩
abbrev S1x1x5632 : Shape := ⟨3, ![1, 1, 5632]⟩
abbrev S5x5632 : Shape := ⟨2, ![5, 5632]⟩
abbrev S8x5632 : Shape := ⟨2, ![8, 5632]⟩
abbrev S2048x5632 : Shape := ⟨2, ![2048, 5632]⟩
abbrev S2048x2816 : Shape := ⟨2, ![2048, 2816]⟩
abbrev S2048x11x256 : Shape := ⟨3, ![2048, 11, 256]⟩
abbrev S11x2048x256 : Shape := ⟨3, ![11, 2048, 256]⟩
abbrev S8x2816 : Shape := ⟨2, ![8, 2816]⟩
abbrev S1x2816 : Shape := ⟨2, ![1, 2816]⟩
abbrev S2048x256 : Shape := ⟨2, ![2048, 256]⟩
abbrev S8x256 : Shape := ⟨2, ![8, 256]⟩
abbrev S1x2048x256 : Shape := ⟨3, ![1, 2048, 256]⟩
abbrev S1x256 : Shape := ⟨2, ![1, 256]⟩
abbrev S1024x256 : Shape := ⟨2, ![1024, 256]⟩
abbrev S1x1040x256 : Shape := ⟨3, ![1, 1040, 256]⟩
abbrev S1040x256 : Shape := ⟨2, ![1040, 256]⟩
abbrev S128x8x256 : Shape := ⟨3, ![128, 8, 256]⟩
abbrev S16x256 : Shape := ⟨2, ![16, 256]⟩
abbrev S1x1024x256 : Shape := ⟨3, ![1, 1024, 256]⟩
abbrev S256 : Shape := ⟨1, ![256]⟩

abbrev nBuf : Space → Nat
  | .hbm => 56
  | .vmem => 26
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S1x2048x2816, .f32⟩
  | .hbm, ⟨4, _⟩ => ⟨S3x5632, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S1x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x2048x5632, .f32⟩
  | .hbm, ⟨13, _⟩ => ⟨S1x2048x5632, .f32⟩
  | .hbm, ⟨14, _⟩ => ⟨S1x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S5632, .f32⟩
  | .hbm, ⟨29, _⟩ => ⟨S1x1x5632, .f32⟩
  | .hbm, ⟨30, _⟩ => ⟨S1x2048x5632, .f32⟩
  | .hbm, ⟨31, _⟩ => ⟨S1x2048x5632, .f32⟩
  | .hbm, ⟨32, _⟩ => ⟨S3x5632, .f32⟩
  | .hbm, ⟨33, _⟩ => ⟨S_, .f32⟩
  | .hbm, ⟨34, _⟩ => ⟨S5x5632, .f32⟩
  | .hbm, ⟨35, _⟩ => ⟨S8x5632, .f32⟩
  | .hbm, ⟨36, _⟩ => ⟨S2048x5632, .f32⟩
  | .hbm, ⟨37, _⟩ => ⟨S2048x5632, .bf16⟩
  | .hbm, ⟨38, _⟩ => ⟨S1x2048x2816, .f32⟩
  | .hbm, ⟨39, _⟩ => ⟨S2048x2816, .f32⟩
  | .hbm, ⟨40, _⟩ => ⟨S2048x11x256, .f32⟩
  | .hbm, ⟨41, _⟩ => ⟨S11x2048x256, .f32⟩
  | .hbm, ⟨42, _⟩ => ⟨S11x2048x256, .bf16⟩
  | .hbm, ⟨43, _⟩ => ⟨S1x2048x2816, .f32⟩
  | .hbm, ⟨44, _⟩ => ⟨S2048x2816, .f32⟩
  | .hbm, ⟨45, _⟩ => ⟨S2048x11x256, .f32⟩
  | .hbm, ⟨46, _⟩ => ⟨S11x2048x256, .f32⟩
  | .hbm, ⟨47, _⟩ => ⟨S11x2048x256, .bf16⟩
  | .hbm, ⟨48, _⟩ => ⟨S2048x2816, .f32⟩
  | .hbm, ⟨49, _⟩ => ⟨S2048x2816, .bf16⟩
  | .hbm, ⟨50, _⟩ => ⟨S2048x2816, .bf16⟩
  | .hbm, ⟨51, _⟩ => ⟨S2048x2816, .bf16⟩
  | .hbm, ⟨52, _⟩ => ⟨S8x2816, .f32⟩
  | .hbm, ⟨53, _⟩ => ⟨S8x2816, .f32⟩
  | .hbm, ⟨54, _⟩ => ⟨S1x2816, .f32⟩
  | .hbm, ⟨55, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S8x256, .f32⟩
  | .local _ .vmem, ⟨19, _⟩ => ⟨S8x256, .f32⟩
  | .local _ .vmem, ⟨20, _⟩ => ⟨S8x256, .f32⟩
  | .local _ .vmem, ⟨21, _⟩ => ⟨S8x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44_0 : Ref sig .tc := ⟨.hbm, 50, rfl⟩
abbrev main_v44_1 : Ref sig .tc := ⟨.hbm, 51, rfl⟩
abbrev main_v44_2 : Ref sig .tc := ⟨.hbm, 52, rfl⟩
abbrev main_v44_3 : Ref sig .tc := ⟨.hbm, 53, rfl⟩
abbrev main_v44_4 : Ref sig .tc := ⟨.hbm, 54, rfl⟩
abbrev main_v44_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c1024_i32 : BitVec 32 := 1024#32
  let v5 : BitVec 32 := Scalar.muli c0_i32 c1024_i32
  v5
def k0_off1 : Fin 2 → Nat :=
  let c0_i32 : BitVec 32 := 0#32
  let c1024_i32 : BitVec 32 := 1024#32
  let v5 : BitVec 32 := Scalar.muli c0_i32 c1024_i32
  let v6 : BitVec 32 := v5
  let v7 : Index := Scalar.indexCast v6
  let c0_3 : Index := 0#32
  ![v7.toNat, 0]
def k0_off2 : Fin 3 → Nat :=
  let c0_5 : Index := 0#32
  let c0_i32 : BitVec 32 := 0#32
  let c1024_i32 : BitVec 32 := 1024#32
  let v5 : BitVec 32 := Scalar.muli c0_i32 c1024_i32
  let v6 : BitVec 32 := v5
  let v13 : Index := Scalar.indexCast v6
  let c0_6 : Index := 0#32
  ![0, v13.toNat, 0]
def k0_off3 : Fin 2 → Nat :=
  let c0_i32 : BitVec 32 := 0#32
  let c1024_i32 : BitVec 32 := 1024#32
  let v5 : BitVec 32 := Scalar.muli c0_i32 c1024_i32
  let v6 : BitVec 32 := v5
  let v19 : Index := Scalar.indexCast v6
  let c0_9 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ActRefIdeal.lean ====
abbrev S1x2048x5632 : Shape := ⟨3, ![1, 2048, 5632]⟩
abbrev S1x3x5632 : Shape := ⟨3, ![1, 3, 5632]⟩
abbrev S1x5632 : Shape := ⟨2, ![1, 5632]⟩
abbrev S1x2048x2816 : Shape := ⟨3, ![1, 2048, 2816]⟩
abbrev S3x5632 : Shape := ⟨2, ![3, 5632]⟩
abbrev S_ : Shape := ⟨0, ![]⟩
abbrev S1x2x5632 : Shape := ⟨3, ![1, 2, 5632]⟩
abbrev S1x2050x5632 : Shape := ⟨3, ![1, 2050, 5632]⟩
abbrev S5632 : Shape := ⟨1, ![5632]⟩
abbrev S1x1x5632 : Shape := ⟨3, ![1, 1, 5632]⟩
abbrev S5x5632 : Shape := ⟨2, ![5, 5632]⟩
abbrev S8x5632 : Shape := ⟨2, ![8, 5632]⟩
abbrev S2048x2816 : Shape := ⟨2, ![2048, 2816]⟩
abbrev S8x2816 : Shape := ⟨2, ![8, 2816]⟩
abbrev S1x2816 : Shape := ⟨2, ![1, 2816]⟩

abbrev nBuf : Space → Nat
  | .hbm => 127
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x3x5632, .f32⟩
  | .hbm, ⟨2, _⟩ => ⟨S1x5632, .f32⟩
  | .hbm, ⟨3, _⟩ => ⟨S1x2048x2816, .f32⟩
  | .hbm, ⟨4, _⟩ => ⟨S3x5632, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S_, .f32⟩
  | .hbm, ⟨9, _⟩ => ⟨S1x2x5632, .f32⟩
  | .hbm, ⟨10, _⟩ => ⟨S1x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x2048x5632, .f32⟩
  | .hbm, ⟨15, _⟩ => ⟨S1x2048x5632, .f32⟩
  | .hbm, ⟨16, _⟩ => ⟨S1x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S5632, .f32⟩
  | .hbm, ⟨31, _⟩ => ⟨S1x1x5632, .f32⟩
  | .hbm, ⟨32, _⟩ => ⟨S1x2048x5632, .f32⟩
  | .hbm, ⟨33, _⟩ => ⟨S1x2048x5632, .f32⟩
  | .hbm, ⟨34, _⟩ => ⟨S1x2048x2816, .f32⟩
  | .hbm, ⟨35, _⟩ => ⟨S1x2048x2816, .f32⟩
  | .hbm, ⟨36, _⟩ => ⟨S1x2048x2816, .f32⟩
  | .hbm, ⟨37, _⟩ => ⟨S1x2048x2816, .f32⟩
  | .hbm, ⟨38, _⟩ => ⟨S_, .f32⟩
  | .hbm, ⟨39, _⟩ => ⟨S1x2048x2816, .f32⟩
  | .hbm, ⟨40, _⟩ => ⟨S1x2048x2816, .f32⟩
  | .hbm, ⟨41, _⟩ => ⟨S_, .f32⟩
  | .hbm, ⟨42, _⟩ => ⟨S1x2048x2816, .f32⟩
  | .hbm, ⟨43, _⟩ => ⟨S1x2048x2816, .f32⟩
  | .hbm, ⟨44, _⟩ => ⟨S_, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S_, .f32⟩
  | .hbm, ⟨57, _⟩ => ⟨S1x2048x5632, .f32⟩
  | .hbm, ⟨58, _⟩ => ⟨S_, .f32⟩
  | .hbm, ⟨59, _⟩ => ⟨S1x2048x5632, .f32⟩
  | .hbm, ⟨60, _⟩ => ⟨S1x2048x5632, .f32⟩
  | .hbm, ⟨61, _⟩ => ⟨S_, .f32⟩
  | .hbm, ⟨62, _⟩ => ⟨S1x5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S1x2048x5632, .f32⟩
  | .hbm, ⟨68, _⟩ => ⟨S_, .f32⟩
  | .hbm, ⟨69, _⟩ => ⟨S1x5632, .f32⟩
  | .hbm, ⟨70, _⟩ => ⟨S1x1x5632, .f32⟩
  | .hbm, ⟨71, _⟩ => ⟨S1x2048x5632, .f32⟩
  | .hbm, ⟨72, _⟩ => ⟨S1x2048x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S_, .f32⟩
  | .hbm, ⟨79, _⟩ => ⟨S1x2050x5632, .f32⟩
  | .hbm, ⟨80, _⟩ => ⟨S1x2048x5632, .f32⟩
  | .hbm, ⟨81, _⟩ => ⟨S_, .f32⟩
  | .hbm, ⟨82, _⟩ => ⟨S1x5632, .f32⟩
  | .hbm, ⟨83, _⟩ => ⟨S1x1x5632, .f32⟩
  | .hbm, ⟨84, _⟩ => ⟨S1x2048x5632, .f32⟩
  | .hbm, ⟨85, _⟩ => ⟨S1x2048x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S3x5632, .f32⟩
  | .hbm, ⟨91, _⟩ => ⟨S3x5632, .f32⟩
  | .hbm, ⟨92, _⟩ => ⟨S_, .f32⟩
  | .hbm, ⟨93, _⟩ => ⟨S1x2050x5632, .f32⟩
  | .hbm, ⟨94, _⟩ => ⟨S1x2050x5632, .f32⟩
  | .hbm, ⟨95, _⟩ => ⟨S1x2048x5632, .f32⟩
  | .hbm, ⟨96, _⟩ => ⟨S_, .f32⟩
  | .hbm, ⟨97, _⟩ => ⟨S1x5632, .f32⟩
  | .hbm, ⟨98, _⟩ => ⟨S1x1x5632, .f32⟩
  | .hbm, ⟨99, _⟩ => ⟨S1x2048x5632, .f32⟩
  | .hbm, ⟨100, _⟩ => ⟨S1x2048x5632, .f32⟩
  | .hbm, ⟨101, _⟩ => ⟨S_, .f32⟩
  | .hbm, ⟨102, _⟩ => ⟨S5632, .f32⟩
  | .hbm, ⟨103, _⟩ => ⟨S1x5632, .f32⟩
  | .hbm, ⟨104, _⟩ => ⟨S_, .f32⟩
  | .hbm, ⟨105, _⟩ => ⟨S3x5632, .f32⟩
  | .hbm, ⟨106, _⟩ => ⟨S3x5632, .f32⟩
  | .hbm, ⟨107, _⟩ => ⟨S_, .f32⟩
  | .hbm, ⟨108, _⟩ => ⟨S1x2050x5632, .f32⟩
  | .hbm, ⟨109, _⟩ => ⟨S1x2050x5632, .f32⟩
  | .hbm, ⟨110, _⟩ => ⟨S1x2x5632, .f32⟩
  | .hbm, ⟨111, _⟩ => ⟨S1x2048x5632, .f32⟩
  | .hbm, ⟨112, _⟩ => ⟨S1x3x5632, .f32⟩
  | .hbm, ⟨113, _⟩ => ⟨S3x5632, .f32⟩
  | .hbm, ⟨114, _⟩ => ⟨S_, .f32⟩
  | .hbm, ⟨115, _⟩ => ⟨S5x5632, .f32⟩
  | .hbm, ⟨116, _⟩ => ⟨S8x5632, .f32⟩
  | .hbm, ⟨117, _⟩ => ⟨S1x2048x2816, .f32⟩
  | .hbm, ⟨118, _⟩ => ⟨S2048x2816, .f32⟩
  | .hbm, ⟨119, _⟩ => ⟨S2048x2816, .bf16⟩
  | .hbm, ⟨120, _⟩ => ⟨S1x2048x2816, .f32⟩
  | .hbm, ⟨121, _⟩ => ⟨S2048x2816, .f32⟩
  | .hbm, ⟨122, _⟩ => ⟨S2048x2816, .bf16⟩
  | .hbm, ⟨123, _⟩ => ⟨S8x2816, .f32⟩
  | .hbm, ⟨124, _⟩ => ⟨S8x2816, .f32⟩
  | .hbm, ⟨125, _⟩ => ⟨S1x2816, .f32⟩
  | .hbm, ⟨126, _⟩ => ⟨S1x2816, .f32⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== MixFwd.lean ====
abbrev S1x2048x2304 : Shape := ⟨3, ![1, 2048, 2304]⟩
abbrev S1x3x512 : Shape := ⟨3, ![1, 3, 512]⟩
abbrev S1x64 : Shape := ⟨2, ![1, 64]⟩
abbrev S32x8 : Shape := ⟨2, ![32, 8]⟩
abbrev S1x8 : Shape := ⟨2, ![1, 8]⟩
abbrev S1x512 : Shape := ⟨2, ![1, 512]⟩
abbrev S512x128 : Shape := ⟨2, ![512, 128]⟩
abbrev S3x512 : Shape := ⟨2, ![3, 512]⟩
abbrev S_ : Shape := ⟨0, ![]⟩
abbrev S5x512 : Shape := ⟨2, ![5, 512]⟩
abbrev S8x512 : Shape := ⟨2, ![8, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S1024x256 : Shape := ⟨2, ![1024, 256]⟩
abbrev S2048x2304 : Shape := ⟨2, ![2048, 2304]⟩
abbrev S1x1x1x64 : Shape := ⟨4, ![1, 1, 1, 64]⟩
abbrev S1x1x8x64 : Shape := ⟨4, ![1, 1, 8, 64]⟩
abbrev S1x1x2x64 : Shape := ⟨4, ![1, 1, 2, 64]⟩
abbrev S1x128 : Shape := ⟨2, ![1, 128]⟩
abbrev S2048x1024 : Shape := ⟨2, ![2048, 1024]⟩
abbrev S256x2304 : Shape := ⟨2, ![256, 2304]⟩
abbrev S256x1024 : Shape := ⟨2, ![256, 1024]⟩
abbrev S128x2304 : Shape := ⟨2, ![128, 2304]⟩
abbrev S128x512 : Shape := ⟨2, ![128, 512]⟩
abbrev S128x64 : Shape := ⟨2, ![128, 64]⟩
abbrev S128x128 : Shape := ⟨2, ![128, 128]⟩
abbrev S256x128 : Shape := ⟨2, ![256, 128]⟩
abbrev S256x64 : Shape := ⟨2, ![256, 64]⟩
abbrev S256x1 : Shape := ⟨2, ![256, 1]⟩
abbrev S1x1 : Shape := ⟨2, ![1, 1]⟩
abbrev S128x1024 : Shape := ⟨2, ![128, 1024]⟩

abbrev nBuf : Space → Nat
  | .hbm => 71
  | .vmem => 17
  | .smem => 1
  | _ => 0

abbrev bufTy : (tb : Table) → Fin (tcTables nBuf tb) → BufTy
  | .hbm, ⟨0, _⟩ => ⟨S1x2048x2304, .f32⟩
  | .hbm, ⟨1, _⟩ => ⟨S1x3x512, .f32⟩
  | .hbm, ⟨2, _⟩ => ⟨S1x64, .f32⟩
  | .hbm, ⟨3, _⟩ => ⟨S1x64, .f32⟩
  | .hbm, ⟨4, _⟩ => ⟨S32x8, .f32⟩
  | .hbm, ⟨5, _⟩ => ⟨S1x8, .f32⟩
  | .hbm, ⟨6, _⟩ => ⟨S1x512, .f32⟩
  | .hbm, ⟨7, _⟩ => ⟨S1x512, .f32⟩
  | .hbm, ⟨8, _⟩ => ⟨S512x128, .bf16⟩
  | .hbm, ⟨9, _⟩ => ⟨S3x512, .f32⟩
  | .hbm, ⟨10, _⟩ => ⟨S_, .f32⟩
  | .hbm, ⟨11, _⟩ => ⟨S5x512, .f32⟩
  | .hbm, ⟨12, _⟩ => ⟨S8x512, .f32⟩
  | .hbm, ⟨13, _⟩ => ⟨S128, .i32⟩
  | .hbm, ⟨14, _⟩ => ⟨S128x1, .i32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i32⟩
  | .hbm, ⟨57, _⟩ => ⟨S128x256, .i32⟩
  | .hbm, ⟨58, _⟩ => ⟨S128x256x1, .i32⟩
  | .hbm, ⟨59, _⟩ => ⟨S128x256x8, .f32⟩
  | .hbm, ⟨60, _⟩ => ⟨S8x128x256, .f32⟩
  | .hbm, ⟨61, _⟩ => ⟨S2x4x128x256, .f32⟩
  | .hbm, ⟨62, _⟩ => ⟨S1024x256, .f32⟩
  | .hbm, ⟨63, _⟩ => ⟨S2048x2304, .f32⟩
  | .hbm, ⟨64, _⟩ => ⟨S1x1x1x64, .f32⟩
  | .hbm, ⟨65, _⟩ => ⟨S1x1x8x64, .f32⟩
  | .hbm, ⟨66, _⟩ => ⟨S1x512, .f32⟩
  | .hbm, ⟨67, _⟩ => ⟨S1x1x1x64, .f32⟩
  | .hbm, ⟨68, _⟩ => ⟨S1x1x2x64, .f32⟩
  | .hbm, ⟨69, _⟩ => ⟨S1x128, .f32⟩
  | .hbm, ⟨70, _⟩ => ⟨S2048x1024, .bf16⟩
  | .local _ .vmem, ⟨0, _⟩ => ⟨S256x2304, .f32⟩
  | .local _ .vmem, ⟨1, _⟩ => ⟨S256x2304, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S128x256, .f32⟩
  | .local _ .vmem, ⟨7, _⟩ => ⟨S128x256, .f32⟩
  | .local _ .vmem, ⟨8, _⟩ => ⟨S8x512, .f32⟩
  | .local _ .vmem, ⟨9, _⟩ => ⟨S1x512, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S512x128, .bf16⟩
  | .local _ .vmem, ⟨14, _⟩ => ⟨S1024x256, .f32⟩
  | .local _ .vmem, ⟨15, _⟩ => ⟨S256x1024, .bf16⟩
  | .local _ .vmem, ⟨16, _⟩ => ⟨S256x1024, .bf16⟩
  | .local _ .smem, ⟨0, _⟩ => ⟨S1x8, .f32⟩
  | _, _ => ⟨S1x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixFwdIdeal.lean ====
variable {F : FTy → Type} [FloatOps F] [Named F]
def κ : String → Option EReal := fun
  | "mask" => some ⊥
  | _ => none
-- ==== MixFwdRefIdeal.lean ====
abbrev S1x2048x2304 : Shape := ⟨3, ![1, 2048, 2304]⟩
abbrev S1x3x512 : Shape := ⟨3, ![1, 3, 512]⟩
abbrev S1x64 : Shape := ⟨2, ![1, 64]⟩
abbrev S32x8 : Shape := ⟨2, ![32, 8]⟩
abbrev S1x8 : Shape := ⟨2, ![1, 8]⟩
abbrev S1x512 : Shape := ⟨2, ![1, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S1x2048x512 : Shape := ⟨3, ![1, 2048, 512]⟩
abbrev S2048x512 : Shape := ⟨2, ![2048, 512]⟩
abbrev S1x2048x128 : Shape := ⟨3, ![1, 2048, 128]⟩
abbrev S2048x128 : Shape := ⟨2, ![2048, 128]⟩
abbrev S3x512 : Shape := ⟨2, ![3, 512]⟩
abbrev S1x2x512 : Shape := ⟨3, ![1, 2, 512]⟩
abbrev S1x2050x512 : Shape := ⟨3, ![1, 2050, 512]⟩
abbrev S512 : Shape := ⟨1, ![512]⟩
abbrev S1x1x512 : Shape := ⟨3, ![1, 1, 512]⟩
abbrev S2048x8x64 : Shape := ⟨3, ![2048, 8, 64]⟩
abbrev S64 : Shape := ⟨1, ![64]⟩
abbrev S2048x8 : Shape := ⟨2, ![2048, 8]⟩
abbrev S2048x8x1 : Shape := ⟨3, ![2048, 8, 1]⟩
abbrev S1x1x64 : Shape := ⟨3, ![1, 1, 64]⟩
abbrev S2048x2x64 : Shape := ⟨3, ![2048, 2, 64]⟩
abbrev S2048x2 : Shape := ⟨2, ![2048, 2]⟩
abbrev S2048x2x1 : Shape := ⟨3, ![2048, 2, 1]⟩
abbrev S8 : Shape := ⟨1, ![8]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S1x2x4x128x256 : Shape := ⟨5, ![1, 2, 4, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S1x2x4x1x1 : Shape := ⟨5, ![1, 2, 4, 1, 1]⟩
abbrev S16x2x4x128 : Shape := ⟨4, ![16, 2, 4, 128]⟩
abbrev S16x2x4x128x1 : Shape := ⟨5, ![16, 2, 4, 128, 1]⟩
abbrev S16x2x64x4x128 : Shape := ⟨5, ![16, 2, 64, 4, 128]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 242
  | .vmem => 0
  | .smem => 0
  | _ => 0

abbrev hbmTy0_0 (i : Nat) : BufTy := match i % 128 with
  | 0 => ⟨S1x2048x2304, .f32⟩
  | 1 => ⟨S1x3x512, .f32⟩
  | 2 => ⟨S1x64, .f32⟩
  | 3 => ⟨S1x64, .f32⟩
  | 4 => ⟨S32x8, .f32⟩
  | 5 => ⟨S1x8, .f32⟩
  | 6 => ⟨S1x512, .f32⟩
  | 7 => ⟨S1x512, .f32⟩
  | 8 => ⟨S128, .i32⟩
  | 9 => ⟨S128x1, .i32⟩
  | 10 => ⟨S256, .i32⟩
  | 11 => ⟨S1x256, .i32⟩
  | 12 => ⟨S_, .i32⟩
  | 13 => ⟨S128x1, .i32⟩
  | 14 => ⟨S128x1, .i32⟩
  | 15 => ⟨S128x256, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i32⟩
  | 24 => ⟨S128x256, .f32⟩
  | 25 => ⟨S_, .f32⟩
  | 26 => ⟨S128x256, .f32⟩
  | 27 => ⟨S128x256, .f32⟩
  | 28 => ⟨S128x256, .f32⟩
  | 29 => ⟨S_, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S128x256, .i32⟩
  | 36 => ⟨S_, .i32⟩
  | 37 => ⟨S128x256, .i32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i32⟩
  | 52 => ⟨S128x256, .i32⟩
  | 53 => ⟨S128x256x1, .i32⟩
  | 54 => ⟨S128x256x8, .f32⟩
  | 55 => ⟨S8x128x256, .f32⟩
  | 56 => ⟨S2x4x128x256, .f32⟩
  | 57 => ⟨S1x2048x512, .f32⟩
  | 58 => ⟨S1x2048x512, .f32⟩
  | 59 => ⟨S1x2048x512, .f32⟩
  | 60 => ⟨S1x2048x512, .f32⟩
  | 61 => ⟨S2048x512, .f32⟩
  | 62 => ⟨S1x2048x128, .f32⟩
  | 63 => ⟨S2048x128, .f32⟩
  | 64 => ⟨S1x2048x128, .f32⟩
  | 65 => ⟨S2048x128, .f32⟩
  | 66 => ⟨S1x2048x512, .f32⟩
  | 67 => ⟨S3x512, .f32⟩
  | 68 => ⟨S_, .f32⟩
  | 69 => ⟨S1x2x512, .f32⟩
  | 70 => ⟨S1x2050x512, .f32⟩
  | 71 => ⟨S1x2048x512, .f32⟩
  | 72 => ⟨S1x512, .f32⟩
  | 73 => ⟨S512, .f32⟩
  | 74 => ⟨S1x1x512, .f32⟩
  | 75 => ⟨S1x2048x512, .f32⟩
  | 76 => ⟨S1x2048x512, .f32⟩
  | 77 => ⟨S1x2048x512, .f32⟩
  | 78 => ⟨S1x512, .f32⟩
  | 79 => ⟨S512, .f32⟩
  | 80 => ⟨S1x1x512, .f32⟩
  | 81 => ⟨S1x2048x512, .f32⟩
  | 82 => ⟨S1x2048x512, .f32⟩
  | 83 => ⟨S1x2048x512, .f32⟩
  | 84 => ⟨S1x2048x512, .f32⟩
  | 85 => ⟨S1x512, .f32⟩
  | 86 => ⟨S512, .f32⟩
  | 87 => ⟨S1x1x512, .f32⟩
  | 88 => ⟨S1x2048x512, .f32⟩
  | 89 => ⟨S1x2048x512, .f32⟩
  | 90 => ⟨S1x2048x512, .f32⟩
  | 91 => ⟨S1x2048x512, .f32⟩
  | 92 => ⟨S2048x8x64, .f32⟩
  | 93 => ⟨S64, .f32⟩
  | 94 => ⟨S2048x8x64, .f32⟩
  | 95 => ⟨S_, .f32⟩
  | 96 => ⟨S2048x8, .f32⟩
  | 97 => ⟨S2048x8x1, .f32⟩
  | 98 => ⟨S_, .f32⟩
  | 99 => ⟨S2048x8x1, .f32⟩
  | 100 => ⟨S2048x8x1, .f32⟩
  | 101 => ⟨S_, .f32⟩
  | 102 => ⟨S2048x8x1, .f32⟩
  | 103 => ⟨S2048x8x1, .f32⟩
  | 104 => ⟨S2048x8x1, .f32⟩
  | 105 => ⟨S2048x8x64, .f32⟩
  | 106 => ⟨S2048x8x64, .f32⟩
  | 107 => ⟨S1x1x64, .f32⟩
  | 108 => ⟨S2048x8x64, .f32⟩
  | 109 => ⟨S2048x8x64, .f32⟩
  | 110 => ⟨S2048x2x64, .f32⟩
  | 111 => ⟨S64, .f32⟩
  | 112 => ⟨S2048x2x64, .f32⟩
  | 113 => ⟨S_, .f32⟩
  | 114 => ⟨S2048x2, .f32⟩
  | 115 => ⟨S2048x2x1, .f32⟩
  | 116 => ⟨S_, .f32⟩
  | 117 => ⟨S2048x2x1, .f32⟩
  | 118 => ⟨S2048x2x1, .f32⟩
  | 119 => ⟨S_, .f32⟩
  | 120 => ⟨S2048x2x1, .f32⟩
  | 121 => ⟨S2048x2x1, .f32⟩
  | 122 => ⟨S2048x2x1, .f32⟩
  | 123 => ⟨S2048x2x64, .f32⟩
  | 124 => ⟨S2048x2x64, .f32⟩
  | 125 => ⟨S1x1x64, .f32⟩
  | 126 => ⟨S2048x2x64, .f32⟩
  | 127 => ⟨S2048x2x64, .f32⟩
  | _ => ⟨S1x2048x2304, .f32⟩

abbrev hbmTy0_1 (i : Nat) : BufTy := match i % 128 with
  | 0 => ⟨S2048x2x64, .f32⟩
  | 1 => ⟨S8, .f32⟩
  | 2 => ⟨S16x128x2x4x64, .f32⟩
  | 3 => ⟨S16x128x2x64, .f32⟩
  | 4 => ⟨S_, .f32⟩
  | 5 => ⟨S1x128x2x64, .f32⟩
  | 6 => ⟨S15x128x2x64, .f32⟩
  | 7 => ⟨S16x128x2x64, .f32⟩
  | 8 => ⟨S16x256x2x64, .f32⟩
  | 9 => ⟨S16x128x2x64, .f32⟩
  | 10 => ⟨S_, .f32⟩
  | 11 => ⟨S1x128x2x64, .f32⟩
  | 12 => ⟨S15x128x2x64, .f32⟩
  | 13 => ⟨S16x128x2x64, .f32⟩
  | 14 => ⟨S16x256x2x64, .f32⟩
  | 15 => ⟨S16x2x256x128x4, .f32⟩
  | 16 => ⟨S16x2x4x128x256, .f32⟩
  | 17 => ⟨S_, .f32⟩
  | 18 => ⟨S16x2x4x128x256, .f32⟩
  | 19 => ⟨S16x2x4x128x256, .f32⟩
  | 20 => ⟨S1x2x4x128x256, .f32⟩
  | 21 => ⟨S16x2x4x128x256, .f32⟩
  | 22 => ⟨S16x2x4x128x256, .f32⟩
  | 23 => ⟨S_, .i32⟩
  | 24 => ⟨S128x256, .i32⟩
  | 25 => ⟨S128x256, .i1⟩
  | 26 => ⟨S_, .i32⟩
  | 27 => ⟨S128x256, .i32⟩
  | 28 => ⟨S128x256, .i1⟩
  | 29 => ⟨S128x256, .i1⟩
  | 30 => ⟨S16, .i32⟩
  | 31 => ⟨S16x1x1, .i32⟩
  | 32 => ⟨S_, .i32⟩
  | 33 => ⟨S16x1x1, .i32⟩
  | 34 => ⟨S16x1x1, .i32⟩
  | 35 => ⟨S_, .i32⟩
  | 36 => ⟨S16x1x1, .i32⟩
  | 37 => ⟨S16x1x1, .i32⟩
  | 38 => ⟨S256, .i32⟩
  | 39 => ⟨S1x1x256, .i32⟩
  | 40 => ⟨S16x1x256, .i32⟩
  | 41 => ⟨S16x1x256, .i32⟩
  | 42 => ⟨S16x1x256, .i32⟩
  | 43 => ⟨S1x128x256, .i1⟩
  | 44 => ⟨S_, .i32⟩
  | 45 => ⟨S16x1x256, .i32⟩
  | 46 => ⟨S16x1x256, .i1⟩
  | 47 => ⟨S16x128x256, .i1⟩
  | 48 => ⟨S16x128x256, .i1⟩
  | 49 => ⟨S16x128x256, .i1⟩
  | 50 => ⟨S16x1x1x128x256, .i1⟩
  | 51 => ⟨S_, .f32⟩
  | 52 => ⟨S_, .f32⟩
  | 53 => ⟨S16x2x4x128x256, .i1⟩
  | 54 => ⟨S16x2x4x128x256, .f32⟩
  | 55 => ⟨S16x2x4x128x256, .f32⟩
  | 56 => ⟨S1x2x4x1x1, .f32⟩
  | 57 => ⟨S_, .f32⟩
  | 58 => ⟨S16x2x4x128, .f32⟩
  | 59 => ⟨S16x2x4x128x1, .f32⟩
  | 60 => ⟨S16x2x4x128x1, .f32⟩
  | 61 => ⟨S16x2x4x128x1, .f32⟩
  | 62 => ⟨S16x2x4x128x256, .f32⟩
  | 63 => ⟨S16x2x4x128x256, .f32⟩
  | 64 => ⟨S16x2x4x128x256, .f32⟩
  | 65 => ⟨S_, .f32⟩
  | 66 => ⟨S16x2x4x128, .f32⟩
  | 67 => ⟨S16x2x4x128x1, .f32⟩
  | 68 => ⟨S16x2x4x128x1, .f32⟩
  | 69 => ⟨S16x2x4x128x1, .f32⟩
  | 70 => ⟨S16x2x4x128x1, .f32⟩
  | 71 => ⟨S16x2x4x128x1, .f32⟩
  | 72 => ⟨S16x2x4x128x256, .f32⟩
  | 73 => ⟨S16x2x4x128x256, .f32⟩
  | 74 => ⟨S16x2x64x4x128, .f32⟩
  | 75 => ⟨S16x128x2x4x64, .f32⟩
  | 76 => ⟨S2048x512, .f32⟩
  | 77 => ⟨S2048x512, .f32⟩
  | 78 => ⟨S512, .f32⟩
  | 79 => ⟨S2048x512, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048x1, .f32⟩
  | 88 => ⟨S2048x1, .f32⟩
  | 89 => ⟨S2048x1, .f32⟩
  | 90 => ⟨S2048x512, .f32⟩
  | 91 => ⟨S2048x512, .f32⟩
  | 92 => ⟨S1x512, .f32⟩
  | 93 => ⟨S2048x512, .f32⟩
  | 94 => ⟨S2048x512, .f32⟩
  | 95 => ⟨S512, .f32⟩
  | 96 => ⟨S2048x512, .f32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S2048x1, .f32⟩
  | 107 => ⟨S2048x512, .f32⟩
  | 108 => ⟨S2048x512, .f32⟩
  | 109 => ⟨S1x512, .f32⟩
  | 110 => ⟨S2048x512, .f32⟩
  | 111 => ⟨S2048x512, .f32⟩
  | 112 => ⟨S2048x1024, .f32⟩
  | 113 => ⟨S2048x1024, .bf16⟩
  | _ => ⟨S1x2048x2304, .f32⟩

abbrev hbmTy (i : Nat) : BufTy := match i / 128 with
  | 0 => hbmTy0_0 i
  | 1 => hbmTy0_1 i
  | _ => ⟨S1x2048x2304, .f32⟩

abbrev bufTy : (tb : Table) → Fin (tcTables nBuf tb) → BufTy
  | .hbm, ⟨i, _⟩ => hbmTy i
  | _, _ => ⟨S1x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_cst_15 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_16 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_17 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_18 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_c_19 : Ref sig .tc := ⟨.hbm, 151, rfl⟩
abbrev main_v122 : Ref sig .tc := ⟨.hbm, 152, rfl⟩
abbrev main_v123 : Ref sig .tc := ⟨.hbm, 153, rfl⟩
abbrev main_c_20 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_c_21 : Ref sig .tc := ⟨.hbm, 160, rfl⟩
abbrev main_v129 : Ref sig .tc := ⟨.hbm, 161, rfl⟩
abbrev main_v130 : Ref sig .tc := ⟨.hbm, 162, rfl⟩
abbrev main_c_22 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_23 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_24 : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_26 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_27 : Ref sig .tc := ⟨.hbm, 208, rfl⟩
abbrev main_v168 : Ref sig .tc := ⟨.hbm, 209, rfl⟩
abbrev main_v169 : Ref sig .tc := ⟨.hbm, 210, rfl⟩
abbrev main_cst_28 : Ref sig .tc := ⟨.hbm, 211, rfl⟩
abbrev main_v170 : Ref sig .tc := ⟨.hbm, 212, rfl⟩
abbrev main_v171 : Ref sig .tc := ⟨.hbm, 213, rfl⟩
abbrev main_cst_29 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_cst_30 : Ref sig .tc := ⟨.hbm, 225, rfl⟩
abbrev main_v182 : Ref sig .tc := ⟨.hbm, 226, rfl⟩
abbrev main_v183 : Ref sig .tc := ⟨.hbm, 227, rfl⟩
abbrev main_cst_31 : Ref sig .tc := ⟨.hbm, 228, rfl⟩
abbrev main_v184 : Ref sig .tc := ⟨.hbm, 229, rfl⟩
abbrev main_v185 : Ref sig .tc := ⟨.hbm, 230, rfl⟩
abbrev main_cst_32 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩

abbrev nD : Nat := 1
abbrev τ : Topo := Topo.v7x

variable {F : FTy → Type} [FloatOps F]
-- ==== InFwd.lean ====
abbrev S1x2048x1024 : Shape := ⟨3, ![1, 2048, 1024]⟩
abbrev S1x1024 : Shape := ⟨2, ![1, 1024]⟩
abbrev S1x1024x2304 : Shape := ⟨3, ![1, 1024, 2304]⟩
abbrev S2048x1024 : Shape := ⟨2, ![2048, 1024]⟩
abbrev S1024x2304 : Shape := ⟨2, ![1024, 2304]⟩
abbrev S2304x1024 : Shape := ⟨2, ![2304, 1024]⟩
abbrev S2048x2304 : Shape := ⟨2, ![2048, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x2304, .f32⟩
  | .hbm, ⟨3, _⟩ => ⟨S2048x1024, .f32⟩
  | .hbm, ⟨4, _⟩ => ⟨S1024x2304, .f32⟩
  | .hbm, ⟨5, _⟩ => ⟨S2304x1024, .f32⟩
  | .hbm, ⟨6, _⟩ => ⟨S2304x1024, .bf16⟩
  | .hbm, ⟨7, _⟩ => ⟨S2048x2304, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2304x1024, .bf16⟩
  | .local _ .vmem, ⟨4, _⟩ => ⟨S512x2304, .f32⟩
  | .local _ .vmem, ⟨5, _⟩ => ⟨S512x2304, .f32⟩
  | .local _ .vmem, ⟨6, _⟩ => ⟨S512x1024, .bf16⟩
  | .local _ .vmem, ⟨7, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S1x2048x1024 : Shape := ⟨3, ![1, 2048, 1024]⟩
abbrev S1x1024 : Shape := ⟨2, ![1, 1024]⟩
abbrev S1x1024x2304 : Shape := ⟨3, ![1, 1024, 2304]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x2304 : Shape := ⟨2, ![1024, 2304]⟩
abbrev S1x2048x2304 : Shape := ⟨3, ![1, 2048, 2304]⟩
abbrev S2048x2304 : Shape := ⟨2, ![2048, 2304]⟩
abbrev S2048x1024 : Shape := ⟨2, ![2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x2304, .f32⟩
  | .hbm, ⟨3, _⟩ => ⟨S1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1024x2304, .f32⟩
  | .hbm, ⟨21, _⟩ => ⟨S1x2048x2304, .f32⟩
  | .hbm, ⟨22, _⟩ => ⟨S2048x2304, .f32⟩
  | .hbm, ⟨23, _⟩ => ⟨S2048x1024, .f32⟩
  | .hbm, ⟨24, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OutFwd.lean ====
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1024x1024, .f32⟩
  | .hbm, ⟨7, _⟩ => ⟨S1024x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== UpFwd.lean ====
abbrev S1x2048x1024 : Shape := ⟨3, ![1, 2048, 1024]⟩
abbrev S1x1024x5632 : Shape := ⟨3, ![1, 1024, 5632]⟩
abbrev S2048x1024 : Shape := ⟨2, ![2048, 1024]⟩
abbrev S1024x5632 : Shape := ⟨2, ![1024, 5632]⟩
abbrev S5632x1024 : Shape := ⟨2, ![5632, 1024]⟩
abbrev S2048x5632 : Shape := ⟨2, ![2048, 5632]⟩
abbrev S512x1024 : Shape := ⟨2, ![512, 1024]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S2048x1024, .f32⟩
  | .hbm, ⟨3, _⟩ => ⟨S2048x1024, .bf16⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S2048x5632, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwdRefIdeal.lean ====
abbrev S1x2048x1024 : Shape := ⟨3, ![1, 2048, 1024]⟩
abbrev S1x1024x5632 : Shape := ⟨3, ![1, 1024, 5632]⟩
abbrev S1024x5632 : Shape := ⟨2, ![1024, 5632]⟩
abbrev S1x2048x5632 : Shape := ⟨3, ![1, 2048, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S1024x5632, .f32⟩
  | .hbm, ⟨3, _⟩ => ⟨S1x2048x5632, .f32⟩
  | .hbm, ⟨4, _⟩ => ⟨S2048x5632, .f32⟩
  | .hbm, ⟨5, _⟩ => ⟨S2048x5632, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownBwd.lean ====
abbrev S1x2816x1024 : Shape := ⟨3, ![1, 2816, 1024]⟩
abbrev S1x2048x1024 : Shape := ⟨3, ![1, 2048, 1024]⟩
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 7
  | .vmem => 5
  | .smem => 0
  | _ => 0

abbrev bufTy : (tb : Table) → Fin (tcTables nBuf tb) → BufTy
  | .hbm, ⟨0, _⟩ => ⟨S1x2816x1024, .f32⟩
  | .hbm, ⟨1, _⟩ => ⟨S1x2048x1024, .f32⟩
  | .hbm, ⟨2, _⟩ => ⟨S2048x1024, .f32⟩
  | .hbm, ⟨3, _⟩ => ⟨S2048x1024, .bf16⟩
  | .hbm, ⟨4, _⟩ => ⟨S2816x1024, .f32⟩
  | .hbm, ⟨5, _⟩ => ⟨S2816x1024, .bf16⟩
  | .hbm, ⟨6, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S1x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRefIdeal.lean ====
abbrev S1x2816x1024 : Shape := ⟨3, ![1, 2816, 1024]⟩
abbrev S1x2048x1024 : Shape := ⟨3, ![1, 2048, 1024]⟩
abbrev S_ : Shape := ⟨0, ![]⟩
abbrev S1x2048x2816 : Shape := ⟨3, ![1, 2048, 2816]⟩
abbrev S2816x1024 : Shape := ⟨2, ![2816, 1024]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1x2816x1024, .f32⟩
  | .hbm, ⟨1, _⟩ => ⟨S1x2048x1024, .f32⟩
  | .hbm, ⟨2, _⟩ => ⟨S_, .f32⟩
  | .hbm, ⟨3, _⟩ => ⟨S1x2048x2816, .f32⟩
  | .hbm, ⟨4, _⟩ => ⟨S2816x1024, .f32⟩
  | .hbm, ⟨5, _⟩ => ⟨S1x2048x1024, .f32⟩
  | .hbm, ⟨6, _⟩ => ⟨S1x2048x2816, .f32⟩
  | .hbm, ⟨7, _⟩ => ⟨S2048x2816, .f32⟩
  | .hbm, ⟨8, _⟩ => ⟨S2048x2816, .bf16⟩
  | _, _ => ⟨S1x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwd.lean ====
abbrev S1x1024x1024 : Shape := ⟨3, ![1, 1024, 1024]⟩
abbrev S1x2048x1024 : Shape := ⟨3, ![1, 2048, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1x2048x1024, .f32⟩
  | .hbm, ⟨2, _⟩ => ⟨S2048x1024, .f32⟩
  | .hbm, ⟨3, _⟩ => ⟨S2048x1024, .bf16⟩
  | .hbm, ⟨4, _⟩ => ⟨S1024x1024, .f32⟩
  | .hbm, ⟨5, _⟩ => ⟨S1024x1024, .bf16⟩
  | .hbm, ⟨6, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutRefIdeal.lean ====
abbrev S1x1024x1024 : Shape := ⟨3, ![1, 1024, 1024]⟩
abbrev S1x2048x1024 : Shape := ⟨3, ![1, 2048, 1024]⟩
abbrev S_ : Shape := ⟨0, ![]⟩
abbrev S1024x1024 : Shape := ⟨2, ![1024, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x2048x1024, .f32⟩
  | .hbm, ⟨2, _⟩ => ⟨S_, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .hbm, ⟨7, _⟩ => ⟨S2048x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpWgrad.lean ====
abbrev S1x2048x1024 : Shape := ⟨3, ![1, 2048, 1024]⟩
abbrev S1x2048x5632 : Shape := ⟨3, ![1, 2048, 5632]⟩
abbrev S1x2048x2816 : Shape := ⟨3, ![1, 2048, 2816]⟩
abbrev S2048x2816 : Shape := ⟨2, ![2048, 2816]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S1x2048x2816, .f32⟩
  | .hbm, ⟨3, _⟩ => ⟨S2048x2816, .f32⟩
  | .hbm, ⟨4, _⟩ => ⟨S2048x2816, .bf16⟩
  | .hbm, ⟨5, _⟩ => ⟨S1x2048x2816, .f32⟩
  | .hbm, ⟨6, _⟩ => ⟨S2048x2816, .f32⟩
  | .hbm, ⟨7, _⟩ => ⟨S2048x2816, .bf16⟩
  | .hbm, ⟨8, _⟩ => ⟨S2048x1024, .f32⟩
  | .hbm, ⟨9, _⟩ => ⟨S2048x1024, .bf16⟩
  | .hbm, ⟨10, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpWgradRefIdeal.lean ====
abbrev S1x2048x1024 : Shape := ⟨3, ![1, 2048, 1024]⟩
abbrev S1x2048x5632 : Shape := ⟨3, ![1, 2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S_, .f32⟩
  | .hbm, ⟨3, _⟩ => ⟨S1024x5632, .f32⟩
  | .hbm, ⟨4, _⟩ => ⟨S1x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S1x704x1024 : Shape := ⟨3, ![1, 704, 1024]⟩
abbrev S704x1024 : Shape := ⟨2, ![704, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1x704x1024 : Shape := ⟨3, ![1, 704, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== FinalSum.lean ====
abbrev S704x1024 : Shape := ⟨2, ![704, 1024]⟩
abbrev S3x704x1024 : Shape := ⟨3, ![3, 704, 1024]⟩
abbrev S_ : Shape := ⟨0, ![]⟩
abbrev S1 : Shape := ⟨1, ![1]⟩
abbrev S2x704x1024 : Shape := ⟨3, ![2, 704, 1024]⟩
abbrev S176x1024 : Shape := ⟨2, ![176, 1024]⟩
abbrev S3x176x1024 : Shape := ⟨3, ![3, 176, 1024]⟩
abbrev S1x176x1024 : Shape := ⟨3, ![1, 176, 1024]⟩
abbrev S1x704x1024 : Shape := ⟨3, ![1, 704, 1024]⟩

abbrev nBuf : Space → Nat
  | .hbm => 6
  | .vmem => 6
  | .smem => 1
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S_, .i32⟩
  | .hbm, ⟨3, _⟩ => ⟨S2x704x1024, .f32⟩
  | .hbm, ⟨4, _⟩ => ⟨S1x704x1024, .f32⟩
  | .hbm, ⟨5, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S704x1024 : Shape := ⟨2, ![704, 1024]⟩
abbrev S3x704x1024 : Shape := ⟨3, ![3, 704, 1024]⟩
abbrev S1x704x1024 : Shape := ⟨3, ![1, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S1x704x1024, .bf16⟩
  | .hbm, ⟨3, _⟩ => ⟨S704x1024, .bf16⟩
  | .hbm, ⟨4, _⟩ => ⟨S704x1024, .f32⟩
  | .hbm, ⟨5, _⟩ => ⟨S704x1024, .f32⟩
  | .hbm, ⟨6, _⟩ => ⟨S1x704x1024, .bf16⟩
  | .hbm, ⟨7, _⟩ => ⟨S704x1024, .bf16⟩
  | .hbm, ⟨8, _⟩ => ⟨S704x1024, .f32⟩
  | .hbm, ⟨9, _⟩ => ⟨S704x1024, .f32⟩
  | .hbm, ⟨10, _⟩ => ⟨S1x704x1024, .bf16⟩
  | .hbm, ⟨11, _⟩ => ⟨S704x1024, .bf16⟩
  | .hbm, ⟨12, _⟩ => ⟨S704x1024, .f32⟩
  | .hbm, ⟨13, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Pack.lean ====
abbrev S1x3x5632 : Shape := ⟨3, ![1, 3, 5632]⟩
abbrev S1x5632 : Shape := ⟨2, ![1, 5632]⟩
abbrev S8x128 : Shape := ⟨2, ![8, 128]⟩
abbrev S3x5632 : Shape := ⟨2, ![3, 5632]⟩
abbrev S_ : Shape := ⟨0, ![]⟩
abbrev S5x5632 : Shape := ⟨2, ![5, 5632]⟩
abbrev S8x5632 : Shape := ⟨2, ![8, 5632]⟩
abbrev S1 : Shape := ⟨1, ![1]⟩
abbrev S8x2816 : Shape := ⟨2, ![8, 2816]⟩
abbrev S1x2816 : Shape := ⟨2, ![1, 2816]⟩
abbrev S8x8x5760 : Shape := ⟨3, ![8, 8, 5760]⟩
abbrev S1x8x5760 : Shape := ⟨3, ![1, 8, 5760]⟩
abbrev S1x8x2816 : Shape := ⟨3, ![1, 8, 2816]⟩
abbrev S1x1x2816 : Shape := ⟨3, ![1, 1, 2816]⟩
abbrev S1x8x128 : Shape := ⟨3, ![1, 8, 128]⟩
abbrev S8x5760 : Shape := ⟨2, ![8, 5760]⟩

abbrev nBuf : Space → Nat
  | .hbm => 15
  | .vmem => 6
  | .smem => 1
  | _ => 0

abbrev bufTy : (tb : Table) → Fin (tcTables nBuf tb) → BufTy
  | .hbm, ⟨0, _⟩ => ⟨S1x3x5632, .f32⟩
  | .hbm, ⟨1, _⟩ => ⟨S1x5632, .f32⟩
  | .hbm, ⟨2, _⟩ => ⟨S8x128, .f32⟩
  | .hbm, ⟨3, _⟩ => ⟨S3x5632, .f32⟩
  | .hbm, ⟨4, _⟩ => ⟨S_, .f32⟩
  | .hbm, ⟨5, _⟩ => ⟨S5x5632, .f32⟩
  | .hbm, ⟨6, _⟩ => ⟨S8x5632, .f32⟩
  | .hbm, ⟨7, _⟩ => ⟨S_, .i32⟩
  | .hbm, ⟨8, _⟩ => ⟨S8x2816, .f32⟩
  | .hbm, ⟨9, _⟩ => ⟨S8x2816, .f32⟩
  | .hbm, ⟨10, _⟩ => ⟨S1x2816, .f32⟩
  | .hbm, ⟨11, _⟩ => ⟨S1x2816, .f32⟩
  | .hbm, ⟨12, _⟩ => ⟨S8x8x5760, .f32⟩
  | .hbm, ⟨13, _⟩ => ⟨S1x8x5760, .f32⟩
  | .hbm, ⟨14, _⟩ => ⟨S8x5760, .f32⟩
  | .local _ .vmem, ⟨0, _⟩ => ⟨S8x2816, .f32⟩
  | .local _ .vmem, ⟨1, _⟩ => ⟨S8x2816, .f32⟩
  | .local _ .vmem, ⟨2, _⟩ => ⟨S1x2816, .f32⟩
  | .local _ .vmem, ⟨3, _⟩ => ⟨S1x2816, .f32⟩
  | .local _ .vmem, ⟨4, _⟩ => ⟨S8x128, .f32⟩
  | .local _ .vmem, ⟨5, _⟩ => ⟨S1x8x5760, .f32⟩
  | .local _ .smem, ⟨0, _⟩ => ⟨S1, .i32⟩
  | _, _ => ⟨S1x3x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S8x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x5760 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PackRefIdeal.lean ====
abbrev S1x3x5632 : Shape := ⟨3, ![1, 3, 5632]⟩
abbrev S1x5632 : Shape := ⟨2, ![1, 5632]⟩
abbrev S8x128 : Shape := ⟨2, ![8, 128]⟩
abbrev S3x5632 : Shape := ⟨2, ![3, 5632]⟩
abbrev S_ : Shape := ⟨0, ![]⟩
abbrev S4x5632 : Shape := ⟨2, ![4, 5632]⟩
abbrev S8x5632 : Shape := ⟨2, ![8, 5632]⟩
abbrev S8x5760 : Shape := ⟨2, ![8, 5760]⟩

abbrev nBuf : Space → Nat
  | .hbm => 8
  | .vmem => 0
  | .smem => 0
  | _ => 0

abbrev bufTy : (tb : Table) → Fin (tcTables nBuf tb) → BufTy
  | .hbm, ⟨0, _⟩ => ⟨S1x3x5632, .f32⟩
  | .hbm, ⟨1, _⟩ => ⟨S1x5632, .f32⟩
  | .hbm, ⟨2, _⟩ => ⟨S8x128, .f32⟩
  | .hbm, ⟨3, _⟩ => ⟨S3x5632, .f32⟩
  | .hbm, ⟨4, _⟩ => ⟨S_, .f32⟩
  | .hbm, ⟨5, _⟩ => ⟨S4x5632, .f32⟩
  | .hbm, ⟨6, _⟩ => ⟨S8x5632, .f32⟩
  | .hbm, ⟨7, _⟩ => ⟨S8x5760, .f32⟩
  | _, _ => ⟨S1x3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Consts.lean ====
/- The float constants the programs of this certificate spell, as the extended reals their patterns denote at `Ideal`. -/
module

public import Idealize.ShloMosaic.PureOps.Ideal

@[expose] public section

noncomputable section

namespace Cert.Consts

open Idealize.ShloMosaic

/-- `1024.0`, the model width a mean is taken over. -/
theorem ofBits_1024 : Ideal.ofBits .f32 0x44800000#32 = ((1024 : ℝ) : EReal) := by
  simp [Ideal.ofBits, Ideal.ieee, -EReal.coe_mul]; norm_num

/-- `-0.5`, the exponent of a reciprocal root, in its gradient. -/
theorem ofBits_neg_half : Ideal.ofBits .f32 0xBF000000#32 = ((-(1 / 2) : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- `1 / 1024`. -/
theorem ofBits_inv_1024 : Ideal.ofBits .f32 0x3A800000#32 = ((1 / 1024 : ℝ) : EReal) := by
  simp [Ideal.ofBits, Ideal.ieee, -EReal.coe_mul]; norm_num

/-- `0.5 / 1024`. -/
theorem ofBits_half_1024 : Ideal.ofBits .f32 0x3A000000#32 = ((1 / 2048 : ℝ) : EReal) := by
  simp [Ideal.ofBits, Ideal.ieee, -EReal.coe_mul]; norm_num

/-- The RMS norms' `1e-6`, rounded to f32, is positive. -/
theorem eps_pos : (0 : EReal) < Ideal.ofBits .f32 0x358637BD#32 := by
  simp [Ideal.ofBits, Ideal.ieee, -EReal.coe_mul]

/-- A nonnegative real factor distributes over a sum of extended reals. -/
theorem sum_mul_coe {ι : Type*} (s : Finset ι) (f : ι → EReal) {k : ℝ} (hk : 0 ≤ k) :
    (∑ i ∈ s, f i) * (k : EReal) = ∑ i ∈ s, f i * (k : EReal) := by
  classical
  induction s using Finset.induction_on with
  | empty => simp
  | insert i s hi ih =>
    rw [Finset.sum_insert hi, Finset.sum_insert hi, ← ih,
      EReal.right_distrib_of_nonneg_of_ne_top (EReal.coe_nonneg.mpr hk) (EReal.coe_ne_top k)]

end Cert.Consts

end
-- ==== Proof.NormGrad.lean ====
/- The gradient of an RMS norm on the extended reals: the closed form `r·u − x·r³·mean(x·u)` a hand-written backward
   pass computes is what the chain rule through `x·rsqrt(mean(x²) + ε)` gives, at the infinities too. -/
module

public import Idealize.ShloMosaic.PureOps.Ideal
public import proofs.«01_k».proof.Proof.Consts

@[expose] public section

noncomputable section

namespace Cert.NormGrad

open Idealize.ShloMosaic

/-- Two equal halves of a product with a nonpositive factor. -/
theorem neg_halves (x s : EReal) {c : ℝ} (hc : 0 ≤ c) :
    x * (s * ((-(c / 2) : ℝ) : EReal)) + x * (s * ((-(c / 2) : ℝ) : EReal)) = -(x * s * (c : EReal)) := by
  have h : x * (s * ((-(c / 2) : ℝ) : EReal)) = -(x * s * ((c / 2 : ℝ) : EReal)) := by
    rw [EReal.coe_neg, mul_neg, mul_neg, mul_assoc]
  have h2 : (0 : EReal) ≤ ((c / 2 : ℝ) : EReal) := by exact_mod_cast (by positivity : (0 : ℝ) ≤ c / 2)
  have hsum : x * s * (c : EReal) = x * s * ((c / 2 : ℝ) : EReal) + x * s * ((c / 2 : ℝ) : EReal) := by
    rw [← EReal.left_distrib_of_nonneg h2 h2, ← EReal.coe_add, add_halves]
  have hw : ∀ w : EReal, -w + -w = -(w + w) := by
    intro w
    induction w with
    | bot => rfl
    | top => rfl
    | coe r => rw [← EReal.coe_neg, ← EReal.coe_add, ← EReal.coe_add, ← EReal.coe_neg]; congr 1; ring
  rw [h, hsum, hw]

/-- THE NORM'S GRADIENT at one element `x` of a row: `q` the row's mean square plus `ε`, `S` the row's `Σ x·u`, `n` the
    row's length, `u` the cotangent of `x·r`. -/
theorem rms_grad {q : EReal} (hq : 0 < q) {n : ℝ} (hn : 0 < n) (x S : EReal) :
    -(x * (Ideal.rsqrt q * Ideal.rsqrt q * Ideal.rsqrt q) * Ideal.div S (n : EReal))
      = x * Ideal.div (S * (((-(1 / 2) : ℝ) : EReal) * Ideal.div (Ideal.rsqrt q) q)) (n : EReal)
        + Ideal.div (S * (((-(1 / 2) : ℝ) : EReal) * Ideal.div (Ideal.rsqrt q) q)) (n : EReal) * x := by
  induction q with
  | bot => simp at hq
  | top => simp [Ideal.div, hn.ne']
  | coe q =>
    have hq' : 0 < q := by exact_mod_cast hq
    have hs : 0 < Real.sqrt q := Real.sqrt_pos.mpr hq'
    rw [Ideal.rsqrt_coe, if_neg (not_lt.mpr hq'.le), if_neg hq'.ne', Ideal.div_coe hn.ne', Ideal.div_coe hn.ne', Ideal.div_coe hq'.ne']
    have hc : (0 : ℝ) ≤ (Real.sqrt q)⁻¹ * (Real.sqrt q)⁻¹ * (Real.sqrt q)⁻¹ * (1 / n) := by positivity
    have e : S * (((-(1 / 2) : ℝ) : EReal) * ((((Real.sqrt q)⁻¹ : ℝ) : EReal) * ((1 / q : ℝ) : EReal))) * ((1 / n : ℝ) : EReal)
        = S * ((-((Real.sqrt q)⁻¹ * (Real.sqrt q)⁻¹ * (Real.sqrt q)⁻¹ * (1 / n) / 2) : ℝ) : EReal) := by
      rw [mul_assoc, ← EReal.coe_mul, ← EReal.coe_mul, ← EReal.coe_mul]
      congr 2
      have : (Real.sqrt q)⁻¹ * (Real.sqrt q)⁻¹ = 1 / q := by
        rw [← mul_inv, Real.mul_self_sqrt hq'.le, one_div]
      rw [this]; ring
    rw [e, mul_comm (S * _) x, neg_halves x S hc]
    congr 1
    push_cast
    ac_rfl

/-- … put beside the other two summands, in the order either program adds them. -/
theorem rms_grad_add {q : EReal} (hq : 0 < q) {n : ℝ} (hn : 0 < n) (x S a b : EReal) :
    a + (b - x * (Ideal.rsqrt q * Ideal.rsqrt q * Ideal.rsqrt q) * Ideal.div S (n : EReal))
      = a + b + x * Ideal.div (S * (((-(1 / 2) : ℝ) : EReal) * Ideal.div (Ideal.rsqrt q) q)) (n : EReal)
        + Ideal.div (S * (((-(1 / 2) : ℝ) : EReal) * Ideal.div (Ideal.rsqrt q) q)) (n : EReal) * x := by
  rw [sub_eq_add_neg, rms_grad hq hn, ← add_assoc, ← add_assoc]

/-- A mean of squares plus `ε` is positive. -/
theorem meansq_pos {ι : Type} [Fintype ι] (f : ι → EReal) {n : ℝ} (hn : 0 < n) {ε : EReal} (hε : 0 < ε) :
    0 < Ideal.div (∑ k, f k * f k) (n : EReal) + ε := by
  rw [Ideal.div_coe hn.ne']
  have h1 : (0 : EReal) ≤ ∑ k, f k * f k := Finset.sum_nonneg fun k _ => by
    rcases le_total 0 (f k) with h | h
    · exact mul_nonneg h h
    · have := mul_nonneg (EReal.neg_nonneg.mpr h) (EReal.neg_nonneg.mpr h)
      rwa [neg_mul, mul_neg, neg_neg] at this
  have h2 : (0 : EReal) ≤ ((1 / n : ℝ) : EReal) := by exact_mod_cast (by positivity : (0 : ℝ) ≤ 1 / n)
  exact lt_of_lt_of_le hε (le_add_of_nonneg_left (mul_nonneg h1 h2))

end Cert.NormGrad

end
-- ==== Proof.UnitSums.lean ====
/- The host's sum over two axes of a three-axis array where those axes have size one: the initial value plus the element. -/
module

public import Idealize.ShloMosaic.Lib.Pointwise

@[expose] public section

set_option maxRecDepth 16384

noncomputable section

namespace Cert.UnitSums

open Idealize.ShloMosaic

variable {n : ℕ}

/-- Over axes 0 and 2. -/
theorem sum_02 (h : (⟨3, ![1, n, 1]⟩ : Shape).ReducesTo [0, 2] ⟨1, ![n]⟩) (v : (⟨3, ![1, n, 1]⟩ : Shape).Idx → EReal)
    (init : EReal) (j : (⟨1, ![n]⟩ : Shape).Idx) : Ideal.hostReduceAdd h v init j = init + v (ix3 0 ⟨(j 0).val, (j 0).isLt⟩ 0) := by
  unfold Ideal.hostReduceAdd
  refine congrArg (init + ·) ((congrArg (fun s : Finset _ => ∑ i ∈ s, v i) ?_).trans (Finset.sum_singleton v (ix3 0 ⟨(j 0).val, (j 0).isLt⟩ 0)))
  ext i
  have hv : (h.drop i 0).val = (i 1).val := rfl
  have h0 : (i 0).val < 1 := (i 0).isLt
  have h2 : (i 2).val < 1 := (i 2).isLt
  simp only [Finset.mem_filter, Finset.mem_univ, true_and, Finset.mem_singleton]
  constructor
  · rintro rfl
    funext a
    match a with
    | ⟨0, _⟩ => exact Fin.ext (by show (i 0).val = 0; omega)
    | ⟨1, _⟩ => exact Fin.ext hv.symm
    | ⟨2, _⟩ => exact Fin.ext (by show (i 2).val = 0; omega)
  · rintro rfl
    funext a
    match a with
    | ⟨0, _⟩ => exact Fin.ext hv

/-- Over axes 0 and 1. -/
theorem sum_01 (h : (⟨3, ![1, 1, n]⟩ : Shape).ReducesTo [0, 1] ⟨1, ![n]⟩) (v : (⟨3, ![1, 1, n]⟩ : Shape).Idx → EReal)
    (init : EReal) (j : (⟨1, ![n]⟩ : Shape).Idx) : Ideal.hostReduceAdd h v init j = init + v (ix3 0 0 ⟨(j 0).val, (j 0).isLt⟩) := by
  unfold Ideal.hostReduceAdd
  refine congrArg (init + ·) ((congrArg (fun s : Finset _ => ∑ i ∈ s, v i) ?_).trans (Finset.sum_singleton v (ix3 0 0 ⟨(j 0).val, (j 0).isLt⟩)))
  ext i
  have hv : (h.drop i 0).val = (i 2).val := rfl
  have h0 : (i 0).val < 1 := (i 0).isLt
  have h1 : (i 1).val < 1 := (i 1).isLt
  simp only [Finset.mem_filter, Finset.mem_univ, true_and, Finset.mem_singleton]
  constructor
  · rintro rfl
    funext a
    match a with
    | ⟨0, _⟩ => exact Fin.ext (by show (i 0).val = 0; omega)
    | ⟨1, _⟩ => exact Fin.ext (by show (i 1).val = 0; omega)
    | ⟨2, _⟩ => exact Fin.ext hv.symm
  · rintro rfl
    funext a
    match a with
    | ⟨0, _⟩ => exact Fin.ext hv

end Cert.UnitSums

end
-- ==== Proof.UpPoint.lean ====
/- `ffn_up_bwd`, the product fused with the norm's gradient: its reference in closed form, and what a grid point of the
   kernel stores. -/
module

public import proofs.«01_k».proof.Defs
public import proofs.«01_k».proof.Proof.Gen.UpBwdIdeal.Value
public import proofs.«01_k».proof.Proof.Gen.UpRefIdeal.Read
public import proofs.«01_k».proof.Proof.Consts
public import proofs.«01_k».proof.Proof.NormGrad
public import proofs.«01_k».proof.Proof.UnitSums
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpRefIdeal.Closed

open Cert.UpRefIdeal Cert.UpRefIdeal.Gen Cert.UpRefIdeal.Read Cert.Consts

variable (h1 : FVec Ideal S1x2048x1024 .f32) (g : FVec Ideal S1x1024 .f32) (w : FVec Ideal S1x1024x5632 .f32)
  (du : FVec Ideal S1x2048x5632 .f32) (dh : FVec Ideal S1x2048x1024 .f32)

/-- A row's mean square plus `ε`. -/
def q (r : Fin 2048) : EReal :=
  Ideal.div (∑ k : Fin 1024, h1 (ix3 0 r k) * h1 (ix3 0 r k)) (1024 : ℝ) + Ideal.ofBits .f32 0x358637BD#32

/-- The cotangent of the normed row: the product with the transposed weight. -/
def gy (r : Fin 2048) (d : Fin 1024) : EReal := ∑ k : Fin 5632, du (ix3 0 r k) * w (ix3 0 d k)

/-- The input's gradient. -/
def dx (r : Fin 2048) (d : Fin 1024) : EReal :=
  dh (ix3 0 r d) + (gy w du r d * g (ix2 0 d) * Ideal.rsqrt (q h1 r)
    - h1 (ix3 0 r d) * (Ideal.rsqrt (q h1 r) * Ideal.rsqrt (q h1 r) * Ideal.rsqrt (q h1 r))
      * Ideal.div (∑ k : Fin 1024, h1 (ix3 0 r k) * (gy w du r k * g (ix2 0 k))) (1024 : ℝ))

/-- The gain's gradient. -/
def dg (d : Fin 1024) : EReal := ∑ r : Fin 2048, h1 (ix3 0 r d) * Ideal.rsqrt (q h1 r) * gy w du r d

theorem ref_dx (r : Fin 2048) (d : Fin 1024) :
    val_main_v43 (F := Ideal) h1 g w du dh (ix2 r d) = dx h1 g w du dh r d := by
  unfold dx
  rw [Cert.NormGrad.rms_grad_add (by unfold q; exact Cert.NormGrad.meansq_pos _ (by norm_num) eps_pos) (by norm_num)]
  unfold q gy
  pointwise [val_main_v43, val_main_v41, val_main_v40, val_main_v39, val_main_v38, val_main_v37, val_main_v36, val_main_v35, val_main_v34, val_main_v33, val_main_v32, val_main_v31, val_main_v30, val_main_v29, val_main_v28, val_main_v27, val_main_v26, val_main_v24, val_main_v23, val_main_v19, val_main_v17, val_main_v15, val_main_v14, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, Cert.UnitSums.sum_02, Cert.UnitSums.sum_01, ofBits_1024, ofBits_neg_half]

theorem ref_dg (d : Fin 1024) : val_main_v42 (F := Ideal) h1 w du (ix2 0 d) = dg h1 w du d := by
  unfold dg q gy
  pointwise [val_main_v42, val_main_v25, val_main_v22, val_main_v21, val_main_v20, val_main_v19, val_main_v17, val_main_v13, val_main_v12, val_main_v8, val_main_v7, val_main_v6, val_main_v5, val_main_v4, val_main_v3, val_main_v2, val_main_v1, val_main_cst, val_main_cst_0, val_main_cst_1, val_main_cst_3, val_main_cst_4, Cert.UnitSums.sum_01, ofBits_1024]

end Cert.UpRefIdeal.Closed

namespace Cert.UpBwdIdeal.Closed

open Cert.UpBwdIdeal Cert.UpBwdIdeal.Gen Cert.Consts

open Cert.UpRefIdeal.Closed (q gy dx dg)

section Tile

variable {a b : FVec Ideal S512x2816 .bf16} {wa wb : FVec Ideal S2816x1024 .bf16} {x ct : FVec Ideal S512x1024 .f32}
  {g : FVec Ideal S1x1024 .f32} {H : FVec Ideal S1x2048x1024 .f32} {G : FVec Ideal S1x1024 .f32}
  {W : FVec Ideal S1x1024x5632 .f32} {U : FVec Ideal S1x2048x5632 .f32} {C : FVec Ideal S1x2048x1024 .f32}

/-- The product over the two halves of the contracted axis. -/
theorem gy_halves (R : Fin 2048) (d : Fin 1024) : gy W U R d
    = (∑ k : Fin 2816, U (ix3 0 R ⟨k, by omega⟩) * W (ix3 0 d ⟨k, by omega⟩))
      + ∑ k : Fin 2816, U (ix3 0 R ⟨2816 + k, by omega⟩) * W (ix3 0 d ⟨2816 + k, by omega⟩) :=
  Fin.sum_univ_two_halves 2816 2816 rfl _

/-- Row `r` of a tile against row `R` of the arrays: the input's gradient. -/
theorem tile_dx (r : Fin 512) (R : Fin 2048) (d : Fin 1024)
    (hx : ∀ k : Fin 1024, x (ix2 r k) = H (ix3 0 R k)) (hct : ct (ix2 r d) = C (ix3 0 R d))
    (hg : ∀ k : Fin 1024, g (ix2 0 k) = G (ix2 0 k))
    (ha : ∀ k : Fin 2816, a (ix2 r k) = U (ix3 0 R ⟨k, by omega⟩))
    (hb : ∀ k : Fin 2816, b (ix2 r k) = U (ix3 0 R ⟨2816 + k, by omega⟩))
    (hwa : ∀ (k : Fin 2816) (e : Fin 1024), wa (ix2 k e) = W (ix3 0 e ⟨k, by omega⟩))
    (hwb : ∀ (k : Fin 2816) (e : Fin 1024), wb (ix2 k e) = W (ix3 0 e ⟨2816 + k, by omega⟩)) :
    k0_pay1 (F := Ideal) (k0_pay7 x) (k0_pay10 a wa b wb g) (k0_pay11 a wa b wb x g) (k0_pay12 x) ct (ix2 r d)
      = dx H G W U C R d := by
  unfold dx q
  pointwise [gy_halves, k0_pay1, k0_pay6, k0_pay7, k0_pay8, k0_pay10, k0_pay11, k0_pay12, hx, hct, hg, ha, hb, hwa, hwb, ofBits_1024]
  rw [mul_comm (Ideal.rsqrt _) (_ * G _)]

theorem pay2_apply (v15 v31 v33 v37 v46 : FVec Ideal S512x1024 .f32) (r : Fin 512) (d : Fin 1024) :
    k0_pay2 (F := Ideal) v15 v31 v33 v37 v46 (ix2 r d) = k0_pay1 (F := Ideal) v15 v31 v33 v37 v46 (ix2 r d) := by
  pointwise [k0_pay2]

theorem pay3_apply (v15 v31 v33 v37 v46 : FVec Ideal S512x1024 .f32) (r : Fin 512) (d : Fin 1024) :
    k0_pay3 (F := Ideal) v15 v31 v33 v37 v46 (ix2 r d) = k0_pay1 (F := Ideal) v15 v31 v33 v37 v46 (ix2 r d) := by
  pointwise [k0_pay3]

/-- … and its term of the gain's gradient, summed over the tile's rows. -/
theorem tile_dg (d : Fin 1024) (acc : FVec Ideal S1x1024 .f32) (R : Fin 512 → Fin 2048)
    (hx : ∀ (r : Fin 512) (k : Fin 1024), x (ix2 r k) = H (ix3 0 (R r) k))
    (ha : ∀ (r : Fin 512) (k : Fin 2816), a (ix2 r k) = U (ix3 0 (R r) ⟨k, by omega⟩))
    (hb : ∀ (r : Fin 512) (k : Fin 2816), b (ix2 r k) = U (ix3 0 (R r) ⟨2816 + k, by omega⟩))
    (hwa : ∀ (k : Fin 2816) (e : Fin 1024), wa (ix2 k e) = W (ix3 0 e ⟨k, by omega⟩))
    (hwb : ∀ (k : Fin 2816) (e : Fin 1024), wb (ix2 k e) = W (ix3 0 e ⟨2816 + k, by omega⟩)) :
    k0_pay4 (F := Ideal) (k0_pay9 a wa b wb x) acc (ix2 0 d)
      = acc (ix2 0 d) + ∑ r : Fin 512, H (ix3 0 (R r) d) * Ideal.rsqrt (q H (R r)) * gy W U (R r) d := by
  unfold q
  pointwise [gy_halves, k0_pay4, k0_pay6, k0_pay7, k0_pay8, k0_pay9, hx, ha, hb, hwa, hwb, ofBits_1024]
  exact congrArg _ (Finset.sum_congr rfl fun r _ => mul_comm _ _)

end Tile

section Blocks

variable (m : (ℓ : Loc nD τ sig) → Buf (Elt Ideal) ℓ) (c : Dev nD)

/-- The arguments' arrays. -/
abbrev H : FVec Ideal S1x2048x1024 .f32 := m ((c : Thread nD τ).loc main_arg0)
abbrev G : FVec Ideal S1x1024 .f32 := m ((c : Thread nD τ).loc main_arg1)
abbrev W : FVec Ideal S1x1024x5632 .f32 := m ((c : Thread nD τ).loc main_arg2)
abbrev U : FVec Ideal S1x2048x5632 .f32 := m ((c : Thread nD τ).loc main_arg3)
abbrev C : FVec Ideal S1x2048x1024 .f32 := m ((c : Thread nD τ).loc main_arg4)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0]
    ∧ win0_6.index t = ![t.val, 0] ∧ win0_7.index t = ![t.val, 0] ∧ win0_8.index t = ![0, 0] :=
  (by decide +kernel : ∀ t : Fin grid0.N, _)

/-- Row `r` of point `t`'s tile, as a row of the arrays. -/
def row (t : Fin cfg0.N) (r : Fin 512) : Fin 2048 := ⟨t.val * 512 + r, by have := lt_of_lt_of_eq t.isLt N_0; omega⟩

section Reads

variable (t : Fin cfg0.N)

theorem blk_a (r : Fin 512) (k : Fin 2816) :
    (show FVec Ideal S512x2816 .bf16 from iblk m c 0 t) (ix2 r k) = U m c (ix3 0 (row t r) ⟨k, by omega⟩) := by
  unfold row; blk_point [iblk, V, idx t]

theorem blk_b (r : Fin 512) (k : Fin 2816) :
    (show FVec Ideal S512x2816 .bf16 from iblk m c 1 t) (ix2 r k) = U m c (ix3 0 (row t r) ⟨2816 + k, by omega⟩) := by
  unfold row; blk_point [iblk, V, idx t]

theorem blk_wa (k : Fin 2816) (e : Fin 1024) :
    (show FVec Ideal S2816x1024 .bf16 from View.ld (iblk m c 2 t) (Rect.unit ![0, 0] ![2816, 1024] inb_S5632x1024_S2816x1024_0_0)) (ix2 k e)
      = W m c (ix3 0 e ⟨k, by omega⟩) := by
  pointwise; blk_point [iblk, V, idx t]

theorem blk_wb (k : Fin 2816) (e : Fin 1024) :
    (show FVec Ideal S2816x1024 .bf16 from View.ld (iblk m c 2 t) (Rect.unit ![2816, 0] ![2816, 1024] inb_S5632x1024_S2816x1024_2816_0)) (ix2 k e)
      = W m c (ix3 0 e ⟨2816 + k, by omega⟩) := by
  pointwise; blk_point [iblk, V, idx t]

theorem blk_x (r : Fin 512) (k : Fin 1024) :
    (show FVec Ideal S512x1024 .f32 from iblk m c 3 t) (ix2 r k) = H m c (ix3 0 (row t r) k) := by
  unfold row; blk_point [iblk, V, idx t]

theorem blk_g (k : Fin 1024) : (show FVec Ideal S1x1024 .f32 from iblk m c 4 t) (ix2 0 k) = G m c (ix2 0 k) := by
  blk_point [iblk, V, idx t]

theorem blk_ct (r : Fin 512) (k : Fin 1024) :
    (show FVec Ideal S512x1024 .f32 from iblk m c 5 t) (ix2 r k) = C m c (ix3 0 (row t r) k) := by
  unfold row; blk_point [iblk, V, idx t]

/-- What either case stores in the two row windows, at row `r` of the tile. -/
theorem point_dx (r : Fin 512) (d : Fin 1024) :
    k0_pay1 (F := Ideal) (k0_pay7 (iblk m c 3 t))
      (k0_pay10 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)) (iblk m c 4 t))
      (k0_pay11 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0))
        (iblk m c 3 t) (iblk m c 4 t))
      (k0_pay12 (iblk m c 3 t)) (iblk m c 5 t) (ix2 r d)
      = dx (H m c) (G m c) (W m c) (U m c) (C m c) (row t r) d :=
  tile_dx r (row t r) d (blk_x m c t r) (blk_ct m c t r d) (blk_g m c t) (blk_a m c t r) (blk_b m c t r) (blk_wa m c t) (blk_wb m c t)

end Reads

theorem outs6 (t : Fin cfg0.N) (y : S512x1024.Idx) : (outsAt0 m c t.val t.isLt).1 y
    = dx (H m c) (G m c) (W m c) (U m c) (C m c) (row t (y 0)) (y 1) := by
  idx_vars y
  by_cases h : t.val % 4 = 0
  · rw [outsAt0_A m c t h]; frame_out; exact (pay2_apply ..).trans (point_dx m c t _ _)
  · rw [outsAt0_B m c t h]; frame_out; exact (pay2_apply ..).trans (point_dx m c t _ _)

theorem outs7 (t : Fin cfg0.N) (y : S512x1024.Idx) : (outsAt0 m c t.val t.isLt).2.1 y
    = dx (H m c) (G m c) (W m c) (U m c) (C m c) (row t (y 0)) (y 1) := by
  idx_vars y
  by_cases h : t.val % 4 = 0
  · rw [outsAt0_A m c t h]; frame_out; exact (pay3_apply ..).trans (point_dx m c t _ _)
  · rw [outsAt0_B m c t h]; frame_out; exact (pay3_apply ..).trans (point_dx m c t _ _)

end Blocks

end Cert.UpBwdIdeal.Closed

end
-- ==== Proof.UpValue.lean ====
/- The value claim of the fused product and norm gradient `ffn_up_bwd`. -/
module

public import proofs.«01_k».proof.Defs
public import proofs.«01_k».proof.Proof.Gen.UpBwdIdeal.Value
public import proofs.«01_k».proof.Proof.Gen.UpRefIdeal.Read
public import proofs.«01_k».proof.Proof.UpPoint
public import proofs.«01_k».proof.Proof.Gen.UpBwd.Frame
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpBwdIdeal.Closed

open Cert.UpBwdIdeal Cert.UpBwdIdeal.Gen

open Cert.UpRefIdeal.Closed (q gy dx dg)

variable (m : (ℓ : Loc nD τ sig) → Buf (Elt Ideal) ℓ) (c : Dev nD)

/-- The gradients as arrays of the arguments. -/
def DX : FVec Ideal S2048x1024 .f32 := fun i => dx (H m c) (G m c) (W m c) (U m c) (C m c) (i 0) (i 1)
def DG : FVec Ideal S1x1024 .f32 := fun i => dg (H m c) (W m c) (U m c) (i 1)

theorem final6 : (dats m 0 c).arrAt 6 (cfgs 0).N = DX m c := by
  refine (dats m 0 c).arrAt_eq_of_covers 6 _ (by decide +kernel) fun t hf y => ?_
  blk_simp
  rw [after0_6]
  refine (outs6 m c t y).trans ?_
  exact congrArg₂ (dx (H m c) (G m c) (W m c) (U m c) (C m c)) (Fin.ext (by unfold row; blk_simp [idx t])) (Fin.ext (by blk_simp [idx t]))

theorem final7 : (dats m 0 c).arrAt 7 (cfgs 0).N = DX m c := by
  refine (dats m 0 c).arrAt_eq_of_covers 7 _ (by decide +kernel) fun t hf y => ?_
  blk_simp
  rw [after0_7]
  refine (outs7 m c t y).trans ?_
  exact congrArg₂ (dx (H m c) (G m c) (W m c) (U m c) (C m c)) (Fin.ext (by unfold row; blk_simp [idx t])) (Fin.ext (by blk_simp [idx t]))

theorem final8 : (dats m 0 c).arrAt 8 (cfgs 0).N = DG m c := by
  refine (dats m 0 c).arrAt_eq_of_after_last 8 t0_3 (by decide +kernel) _ fun j => ?_
  blk_simp
  rw [after0_8, Pipeline.eq_sum_fin_of_reset_step_apply_last (fun n h => (outsAt0 m c n h).2.2) 4 (fun _ => 0)
    (fun p (j : S1x1024.Idx) => ∑ r : Fin 512, H m c (ix3 0 (row p r) (j 1)) * Ideal.rsqrt (q (H m c) (row p r)) * gy (W m c) (U m c) (row p r) (j 1))
    (fun t h j => by
      rw [outsAt0_A m c t h]; frame_out
      obtain ⟨d, rfl⟩ : ∃ d : Fin 1024, j = ix2 0 d := ⟨j 1, by idx_vars j; idx_ext⟩
      refine (tile_dg d _ (row t) (blk_x m c t) (blk_a m c t) (blk_b m c t) (blk_wa m c t) (blk_wb m c t)).trans ?_
      exact congrArg (· + _) (by pointwise [k0_pay5]))
    (fun t h j => by
      rw [outsAt0_B m c t h]; frame_out
      obtain ⟨d, rfl⟩ : ∃ d : Fin 1024, j = ix2 0 d := ⟨j 1, by idx_vars j; idx_ext⟩
      exact tile_dg d _ (row t) (blk_x m c t) (blk_a m c t) (blk_b m c t) (blk_wa m c t) (blk_wb m c t))
    (le_of_eq N_0) t0_3 rfl j, zero_add]
  exact Fin.sum_mul_add_congr (S := 4) (n := 512) (L := 2048)
    (f := fun R => H m c (ix3 0 R (j 1)) * Ideal.rsqrt (q (H m c) R) * gy (W m c) (U m c) R (j 1)) fun p r hl => rfl

end Cert.UpBwdIdeal.Closed

namespace Cert.Proof.Up

open Cert.UpBwdIdeal.Closed

theorem frame_p : Cert.quiescent_UpBwd := fun m ρ _ => Cert.UpBwd.Gen.frame m ρ
theorem frame_pi : Cert.quiescent_UpBwdIdeal := fun m ρ _ => Cert.UpBwdIdeal.Gen.frame m ρ
theorem frame_ri : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run (F := Ideal) m ρ)
theorem preserves : Cert.preserves_UpBwd_UpBwdIdeal := trivial

/-- Both programs end with the closed forms of the arguments. -/
theorem value : Cert.algebraic_UpBwdIdeal_UpRefIdeal := by
  intro m g m' g' _ hm
  refine ⟨DX m, DX m, DG m, (θ_run Cert.UpBwdIdeal.defs _ _).mono (fun r h c => ?_) (Cert.UpBwdIdeal.Value.run_blocks m g),
    (θ_run Cert.UpRefIdeal.defs _ _).mono (fun r h c => ?_) (Cert.UpRefIdeal.Value.run m' g')⟩
  · obtain ⟨h0, h1, h2, hk⟩ := h c
    exact ⟨h0.trans (final6 m c), h1.trans (final7 m c), h2.trans (final8 m c), hk⟩
  · obtain ⟨h0, h1, h2, hk⟩ := h c
    obtain ⟨a0, a1, a2, a3, a4⟩ := hm c
    refine ⟨h0.trans ?_, h1.trans ?_, h2.trans ?_, hk⟩
    · rw [Cert.UpRefIdeal.Read.val_main_v43_eq, a0, a1, a2, a3, a4]
      funext i; idx_vars i
      exact Cert.UpRefIdeal.Closed.ref_dx ..
    · rw [Cert.UpRefIdeal.Read.val_main_v45_eq, a0, a1, a2, a3, a4]
      funext i; idx_vars i
      exact Cert.UpRefIdeal.Closed.ref_dx ..
    · rw [Cert.UpRefIdeal.Read.val_main_v42_eq, a0, a2, a3]
      funext i
      obtain ⟨d, rfl⟩ : ∃ d : Fin 1024, i = ix2 0 d := ⟨i 1, by idx_vars i; idx_ext⟩
      exact Cert.UpRefIdeal.Closed.ref_dg ..

end Cert.Proof.Up

end
-- ==== Proof.LossPoint.lean ====
/- `ffn_down`, the product fused with the loss and its gradient: its reference in closed form, and what a grid point of the
   kernel stores. -/
module

public import proofs.«01_k».proof.Defs
public import proofs.«01_k».proof.Proof.Gen.LossBwdIdeal.Frame
public import proofs.«01_k».proof.Proof.Gen.LossRefIdeal.Read
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossRefIdeal.Closed

open Cert.LossRefIdeal Cert.LossRefIdeal.Gen Cert.LossRefIdeal.Read Cert.Consts

variable (a : FVec Ideal S1x2048x2816 .f32) (w : FVec Ideal S1x2816x1024 .f32) (h t : FVec Ideal S1x2048x1024 .f32)

/-- The error of the layer's output against the target. -/
def e (r : Fin 2048) (d : Fin 1024) : EReal :=
  h (ix3 0 r d) + (∑ k : Fin 2816, a (ix3 0 r k) * w (ix3 0 k d)) - t (ix3 0 r d)

/-- The loss's gradient. -/
def dh (r : Fin 2048) (d : Fin 1024) : EReal := e a w h t r d * ((1 / 1024 : ℝ) : EReal)

/-- The sum of the squared errors. -/
def sq : EReal := ∑ r : Fin 2048, ∑ d : Fin 1024, e a w h t r d * e a w h t r d

theorem ref_dh (r : Fin 2048) (d : Fin 1024) : val_main_v18 (F := Ideal) a w h t (ix2 r d) = dh a w h t r d := by
  unfold dh
  trans Ideal.div (((1 / 2 : ℝ) : EReal) * ((1 : ℝ) : EReal)) ((1024 : ℝ) : EReal) * (((2 : ℝ) : EReal) * e a w h t r d)
  · unfold e
    pointwise [val_main_v18, val_main_v17, val_main_v16, val_main_v15, val_main_v14, val_main_v13, val_main_v12, val_main_v6, val_main_v5, val_main_v3, val_main_v2, val_main_v1, val_main_v0, val_main_cst, val_main_cst_4, val_main_cst_5, val_main_cst_6, ofBits_half, ofBits_one, ofBits_two, ofBits_1024]
  · rw [Ideal.div_coe (by norm_num) _, ← mul_assoc, mul_comm (e a w h t r d)]
    refine congrArg (· * _) ?_
    norm_cast
    norm_num

theorem ref_loss : val_main_v21 (F := Ideal) a w h t (ix2 0 0) = sq a w h t * ((1 / 2048 : ℝ) : EReal) := by
  trans ((1 / 2 : ℝ) : EReal) * ∑ r : Fin 2048, Ideal.div (∑ d : Fin 1024, e a w h t r d * e a w h t r d) ((1024 : ℝ) : EReal)
  · unfold e
    pointwise [val_main_v21, val_main_v11, val_main_v10, val_main_v9, val_main_v8, val_main_v7, val_main_v4, val_main_v3, val_main_v2, val_main_v1, val_main_v0, val_main_cst_0, val_main_cst_1, val_main_cst_2, val_main_cst_3, ofBits_half, ofBits_1024]
    simp only [Fin.sum_univ_one]
  · have hd : ∀ x : EReal, Ideal.div x ((1024 : ℝ) : EReal) = x * ((1 / 1024 : ℝ) : EReal) := Ideal.div_coe (by norm_num)
    unfold sq
    simp only [hd]
    rw [← sum_mul_coe _ _ (by norm_num), mul_comm, mul_assoc]
    refine congrArg (_ * ·) ?_
    norm_cast
    norm_num

end Cert.LossRefIdeal.Closed

namespace Cert.LossBwdIdeal.Closed

open Cert.LossBwdIdeal Cert.LossBwdIdeal.Gen Cert.Consts

open Cert.LossRefIdeal.Closed (e dh sq)

section Tile

variable {a : FVec Ideal S512x2816 .bf16} {w : FVec Ideal S2816x1024 .bf16} {x t : FVec Ideal S512x1024 .f32}
  {A : FVec Ideal S1x2048x2816 .f32} {W : FVec Ideal S1x2816x1024 .f32} {H T : FVec Ideal S1x2048x1024 .f32}

/-- Row `r` of a tile against row `R` of the arrays: the error. -/
theorem tile_e (r : Fin 512) (R : Fin 2048) (d : Fin 1024)
    (ha : ∀ k : Fin 2816, a (ix2 r k) = A (ix3 0 R k)) (hw : ∀ k : Fin 2816, w (ix2 k d) = W (ix3 0 k d))
    (hx : x (ix2 r d) = H (ix3 0 R d)) (ht : t (ix2 r d) = T (ix3 0 R d)) :
    k0_pay3 (F := Ideal) x a w t (ix2 r d) = e A W H T R d := by
  unfold e
  pointwise [k0_pay3, ha, hw, hx, ht]

theorem pay5_apply (r : Fin 512) (d : Fin 1024) :
    k0_pay5 (F := Ideal) x a w t (ix2 r d) = k0_pay3 (F := Ideal) x a w t (ix2 r d) * ((1 / 1024 : ℝ) : EReal) := by
  pointwise [k0_pay5, k0_pay4, ofBits_inv_1024]

theorem pay6_apply (r : Fin 512) (d : Fin 1024) :
    k0_pay6 (F := Ideal) x a w t (ix2 r d) = k0_pay3 (F := Ideal) x a w t (ix2 r d) * ((1 / 1024 : ℝ) : EReal) := by
  pointwise [k0_pay6, k0_pay4, ofBits_inv_1024]

theorem pay7_apply (i : Fin 8) (d : Fin 1024) :
    k0_pay7 (F := Ideal) x a w t (ix2 i d)
      = ∑ p : Fin 64, k0_pay3 (F := Ideal) x a w t (ix2 ⟨p * 8 + i, by omega⟩ d) * k0_pay3 (F := Ideal) x a w t (ix2 ⟨p * 8 + i, by omega⟩ d) := by
  pointwise [k0_pay7]

theorem pay1_apply (i : Fin 8) (j : Fin 128) (acc : FVec Ideal S8x128 .f32) :
    k0_pay1 (F := Ideal) (k0_pay7 x a w t) (k0_pay8 x a w t) acc (ix2 i j)
      = acc (ix2 i j) + ∑ k : Fin 8, k0_pay7 (F := Ideal) x a w t (ix2 i ⟨k * 128 + j, by omega⟩) := by
  rw [Fin.sum_univ_eight]
  pointwise [k0_pay1, k0_pay8]

end Tile

section Blocks

variable (m : (ℓ : Loc nD τ sig) → Buf (Elt Ideal) ℓ) (c : Dev nD)

theorem flat0 : List.flatten [(hostOps0 : List (HloOp τ sig (Elt Ideal)))] = hostOps0 := by simp

/-- The arguments' arrays. -/
abbrev A : FVec Ideal S1x2048x2816 .f32 := m ((c : Thread nD τ).loc main_arg0)
abbrev W : FVec Ideal S1x2816x1024 .f32 := m ((c : Thread nD τ).loc main_arg1)
abbrev H : FVec Ideal S1x2048x1024 .f32 := m ((c : Thread nD τ).loc main_arg2)
abbrev T : FVec Ideal S1x2048x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![0, 0] :=
  (by decide +kernel : ∀ t : Fin grid0.N, _)

theorem V_v1 : V m c main_v1
    = truncf .bf16 (shapeCast S2048x2816 (A m c) shapeCasts_S1x2048x2816_S2048x2816) bitsLt_bf16_f32 := by
  unfold V V0; rw [flat0]; after_results <;> rfl

theorem V_v3 : V m c main_v3
    = truncf .bf16 (shapeCast S2816x1024 (W m c) shapeCasts_S1x2816x1024_S2816x1024) bitsLt_bf16_f32 := by
  unfold V V0; rw [flat0]; after_results <;> rfl

theorem V_v4 : V m c main_v4
    = shapeCast S2048x1024 (H m c) shapeCasts_S1x2048x1024_S2048x1024 := by
  unfold V V0; rw [flat0]; after_results <;> rfl

theorem V_v5 : V m c main_v5
    = shapeCast S2048x1024 (T m c) shapeCasts_S1x2048x1024_S2048x1024 := by
  unfold V V0; rw [flat0]; after_results <;> rfl

/-- Row `r` of point `t`'s tile, as a row of the arrays. -/
def row (t : Fin cfg0.N) (r : Fin 512) : Fin 2048 := ⟨t.val * 512 + r, by have := lt_of_lt_of_eq t.isLt N_0; omega⟩

variable (t : Fin cfg0.N)

theorem blk_a (r : Fin 512) (k : Fin 2816) :
    (show FVec Ideal S512x2816 .bf16 from iblk m c 0 t) (ix2 r k) = A m c (ix3 0 (row t r) k) := by
  refine (congrFun (V_v1 m c) _).trans ?_
  rw [show (win0_0.blk t).view.emb (ix2 r k) = ix2 (row t r) k by unfold row; blk_ext [idx t]]
  pointwise

theorem blk_w (k : Fin 2816) (d : Fin 1024) :
    (show FVec Ideal S2816x1024 .bf16 from iblk m c 1 t) (ix2 k d) = W m c (ix3 0 k d) := by
  refine (congrFun (V_v3 m c) _).trans ?_
  rw [show (win0_1.blk t).view.emb (ix2 k d) = ix2 k d by blk_ext [idx t]]
  pointwise

theorem blk_h (r : Fin 512) (d : Fin 1024) :
    (show FVec Ideal S512x1024 .f32 from iblk m c 2 t) (ix2 r d) = H m c (ix3 0 (row t r) d) := by
  refine (congrFun (V_v4 m c) _).trans ?_
  rw [show (win0_2.blk t).view.emb (ix2 r d) = ix2 (row t r) d by unfold row; blk_ext [idx t]]
  pointwise

theorem blk_t (r : Fin 512) (d : Fin 1024) :
    (show FVec Ideal S512x1024 .f32 from iblk m c 3 t) (ix2 r d) = T m c (ix3 0 (row t r) d) := by
  refine (congrFun (V_v5 m c) _).trans ?_
  rw [show (win0_3.blk t).view.emb (ix2 r d) = ix2 (row t r) d by unfold row; blk_ext [idx t]]
  pointwise

theorem point_e (r : Fin 512) (d : Fin 1024) :
    k0_pay3 (F := Ideal) (iblk m c 2 t) (iblk m c 0 t) (iblk m c 1 t) (iblk m c 3 t) (ix2 r d)
      = e (A m c) (W m c) (H m c) (T m c) (row t r) d :=
  tile_e r (row t r) d (blk_a m c t r) (blk_w m c t · d) (blk_h m c t r d) (blk_t m c t r d)

theorem outs4 (y : S512x1024.Idx) : (outsAt0 m c t.val t.isLt).1 y
    = dh (A m c) (W m c) (H m c) (T m c) (row t (y 0)) (y 1) := by
  idx_vars y
  by_cases h : t.val % 4 = 0
  · rw [outsAt0_A m c t h]; frame_out; exact (pay5_apply ..).trans (congrArg (· * _) (point_e m c t _ _))
  · rw [outsAt0_B m c t h]; frame_out; exact (pay5_apply ..).trans (congrArg (· * _) (point_e m c t _ _))

theorem outs5 (y : S512x1024.Idx) : (outsAt0 m c t.val t.isLt).2.1 y
    = dh (A m c) (W m c) (H m c) (T m c) (row t (y 0)) (y 1) := by
  idx_vars y
  by_cases h : t.val % 4 = 0
  · rw [outsAt0_A m c t h]; frame_out; exact (pay6_apply ..).trans (congrArg (· * _) (point_e m c t _ _))
  · rw [outsAt0_B m c t h]; frame_out; exact (pay6_apply ..).trans (congrArg (· * _) (point_e m c t _ _))

end Blocks

end Cert.LossBwdIdeal.Closed

end
-- ==== Proof.LossValue.lean ====
/- `ffn_down`: the arrays its call ends with, the host's sum of the squared errors, and the claim. -/
module

public import proofs.«01_k».proof.Proof.LossPoint
public import proofs.«01_k».proof.Proof.Gen.LossBwd.Frame
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossBwdIdeal.Closed

open Cert.LossBwdIdeal Cert.LossBwdIdeal.Gen Cert.Consts

open Cert.LossRefIdeal.Closed (e dh sq)

variable (m : (ℓ : Loc nD τ sig) → Buf (Elt Ideal) ℓ) (c : Dev nD)

/-- The loss's gradient, as an array. -/
def DH : FVec Ideal S2048x1024 .f32 := fun i => dh (A m c) (W m c) (H m c) (T m c) (i 0) (i 1)

theorem final4 : (dats m 0 c).arrAt 4 (cfgs 0).N = DH m c := by
  refine (dats m 0 c).arrAt_eq_of_covers 4 _ (by decide +kernel) fun t hf y => ?_
  blk_simp
  rw [after0_4]
  refine (outs4 m c t y).trans ?_
  exact congrArg₂ (dh (A m c) (W m c) (H m c) (T m c)) (Fin.ext (by unfold row; blk_simp [idx t])) (Fin.ext (by blk_simp [idx t]))

theorem final5 : (dats m 0 c).arrAt 5 (cfgs 0).N = DH m c := by
  refine (dats m 0 c).arrAt_eq_of_covers 5 _ (by decide +kernel) fun t hf y => ?_
  blk_simp
  rw [after0_5]
  refine (outs5 m c t y).trans ?_
  exact congrArg₂ (dh (A m c) (W m c) (H m c) (T m c)) (Fin.ext (by unfold row; blk_simp [idx t])) (Fin.ext (by blk_simp [idx t]))

/-- The square of the error at row `p`, column `d`. -/
def e2 (r : Fin 2048) (d : Fin 1024) : EReal := e (A m c) (W m c) (H m c) (T m c) r d * e (A m c) (W m c) (H m c) (T m c) r d

/-- One tile's term of the partial sums of squares. -/
def part (n : Fin cfg0.N) (i : Fin 8) (j : Fin 128) : EReal :=
  ∑ k : Fin 8, ∑ p : Fin 64, e2 m c (row n ⟨p * 8 + i, by omega⟩) ⟨k * 128 + j, by omega⟩

theorem point_sq (t : Fin cfg0.N) (i : Fin 8) (j : Fin 128) (acc : FVec Ideal S8x128 .f32) :
    k0_pay1 (F := Ideal) (k0_pay7 (iblk m c 2 t) (iblk m c 0 t) (iblk m c 1 t) (iblk m c 3 t))
      (k0_pay8 (iblk m c 2 t) (iblk m c 0 t) (iblk m c 1 t) (iblk m c 3 t)) acc (ix2 i j)
      = acc (ix2 i j) + part m c t i j := by
  refine (pay1_apply i j acc).trans (congrArg (acc (ix2 i j) + ·) ?_)
  refine Finset.sum_congr rfl fun k _ => ?_
  refine (pay7_apply ..).trans (Finset.sum_congr rfl fun p _ => ?_)
  rw [point_e m c t]
  rfl

theorem final6 : (dats m 0 c).arrAt 6 (cfgs 0).N = fun j => ∑ n : Fin 4, part m c (n.cast N_0.symm) (j 0) (j 1) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0)
    (fun n (j : S8x128.Idx) => part m c n (j 0) (j 1))
    (fun t h j => by
      idx_vars j
      rw [outsAt0_A m c t h]; frame_out
      exact (point_sq m c t _ _ _).trans (congrArg (· + _) (by pointwise [k0_pay2])))
    (fun t h j => by
      idx_vars j
      rw [outsAt0_B m c t h]; frame_out
      exact point_sq m c t _ _ _)
    (le_of_eq N_0) t0_3 rfl j, zero_add]
  rfl

/-- The order of the sums: tiles, rows of a tile by sublane, columns by lane. -/
theorem sum_order (f : Fin 4 → Fin 64 → Fin 8 → Fin 8 → Fin 128 → EReal) :
    ∑ i : Fin 8, ∑ j : Fin 128, ∑ n : Fin 4, ∑ k : Fin 8, ∑ p : Fin 64, f n p i k j
      = ∑ n : Fin 4, ∑ p : Fin 64, ∑ i : Fin 8, ∑ k : Fin 8, ∑ j : Fin 128, f n p i k j := by
  calc _ = ∑ i : Fin 8, ∑ n : Fin 4, ∑ j : Fin 128, ∑ k : Fin 8, ∑ p : Fin 64, f n p i k j :=
        Finset.sum_congr rfl fun i _ => Finset.sum_comm
    _ = ∑ n : Fin 4, ∑ i : Fin 8, ∑ j : Fin 128, ∑ k : Fin 8, ∑ p : Fin 64, f n p i k j := Finset.sum_comm
    _ = ∑ n : Fin 4, ∑ i : Fin 8, ∑ p : Fin 64, ∑ k : Fin 8, ∑ j : Fin 128, f n p i k j := by
        refine Finset.sum_congr rfl fun n _ => Finset.sum_congr rfl fun i _ => ?_
        refine Finset.sum_comm.trans ?_
        refine (Finset.sum_congr rfl fun k _ => Finset.sum_comm).trans Finset.sum_comm
    _ = _ := Finset.sum_congr rfl fun n _ => Finset.sum_comm

theorem sum_parts : ∑ i : Fin 8, ∑ j : Fin 128, ∑ n : Fin 4, part m c (n.cast N_0.symm) i j
    = LossRefIdeal.Closed.sq (A m c) (W m c) (H m c) (T m c) := by
  refine (sum_order fun n p i k j => e2 m c (row (n.cast N_0.symm) ⟨p * 8 + i, by omega⟩) ⟨k * 128 + j, by omega⟩).trans ?_
  unfold LossRefIdeal.Closed.sq
  rw [Fin.sum_univ_tiles 4 512 rfl]
  refine Finset.sum_congr rfl fun n _ => ?_
  rw [Fin.sum_univ_tiles 64 8 rfl]
  refine Finset.sum_congr rfl fun p _ => Finset.sum_congr rfl fun i _ => ?_
  rw [Fin.sum_univ_tiles 8 128 rfl]
  rfl

/-- The host's sums and its factor, at the one entry of their result. -/
theorem host_sum (X : FVec Ideal S8x128 .f32) :
    mulf (broadcastInDim S1x1 ![1] Gen.bcast_S1_S1x1_1
      (Host.reduceAdd (broadcastInDim S8x1 ![0] Gen.bcast_S8_S8x1_0
        (Host.reduceAdd X (constant S_ FTy.f32 0#32) Gen.reducesTo_S8x128_S8_d1 Gen.h_S_))
        (constant S_ FTy.f32 0#32) Gen.reducesTo_S8x1_S1_d0 Gen.h_S_))
      (broadcastInDim S1x1 ![] Gen.bcast_S_S1x1 (constant S_ FTy.f32 973078528#32)) (ix2 0 0)
      = (∑ i : Fin 8, ∑ j : Fin 128, X (ix2 i j)) * ((1 / 2048 : ℝ) : EReal) := by
  pointwise [ofBits_half_1024]

/-- The loss, as the host leaves it. -/
def LOSS : FVec Ideal S1x1 .f32 := fun _ => LossRefIdeal.Closed.sq (A m c) (W m c) (H m c) (T m c) * ((1 / 2048 : ℝ) : EReal)

end Cert.LossBwdIdeal.Closed

namespace Cert.Proof.Loss

open Cert.LossBwdIdeal.Closed

theorem frame_p : Cert.quiescent_LossBwd := fun m ρ _ => Cert.LossBwd.Gen.frame m ρ
theorem frame_pi : Cert.quiescent_LossBwdIdeal := fun m ρ _ => Cert.LossBwdIdeal.Gen.frame m ρ
theorem frame_ri : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)
theorem preserves : Cert.preserves_LossBwd_LossBwdIdeal := trivial

open Cert.LossBwdIdeal in
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6_0) = DH m c
      ∧ r.2.mem ((c.tc : Thread nD τ).loc main_v6_1) = DH m c
      ∧ r.2.mem ((c.tc : Thread nD τ).loc main_v12) = LOSS m c := by
  run_from Cert.LossBwdIdeal.Gen.run_main m g
  · exact final4 m c
  · exact final5 m c
  · unfold Pipeline.afterTail₀
    rw [show List.flatten [Gen.hostOps1] = Gen.hostOps1 by simp]
    after_results
    rw [show Pipeline.withArrays (cfgs 0).spec c (Gen.V0 m c) (fun w => (Gen.dats m 0 c).arrAt w (cfgs 0).N)
      (Proc.tc.devRef main_v6_2) = (Gen.dats m 0 c).arrAt 6 (cfgs 0).N from
        Pipeline.withArrays_arr (cfgs 0).spec (by decide) c _ _ 6]
    funext i
    obtain rfl : i = ix2 0 0 := by idx_vars i; idx_ext
    refine (host_sum _).trans ?_
    rw [final6]
    exact congrArg (· * _) (sum_parts m c)

theorem value : Cert.algebraic_LossBwdIdeal_LossRefIdeal := by
  intro m g m' g' _ hm
  refine ⟨DH m, DH m, LOSS m, (θ_run Cert.LossBwdIdeal.defs _ _).mono (fun r h c => ⟨(h.1 c).1, (h.1 c).2.1, (h.1 c).2.2, h.2.1 c⟩)
    (θ_run_and (run m g) (Cert.LossBwdIdeal.Gen.frame (F := Ideal) m g)),
    (θ_run Cert.LossRefIdeal.defs _ _).mono (fun r h c => ?_) (Cert.LossRefIdeal.Value.run m' g')⟩
  obtain ⟨h0, h1, h2, hk⟩ := h c
  obtain ⟨a0, a1, a2, a3⟩ := hm c
  refine ⟨h0.trans ?_, h1.trans ?_, h2.trans ?_, hk⟩
  · rw [Cert.LossRefIdeal.Read.val_main_v18_eq, a0, a1, a2, a3]
    funext i; idx_vars i
    exact Cert.LossRefIdeal.Closed.ref_dh ..
  · rw [Cert.LossRefIdeal.Read.val_main_v20_eq, a0, a1, a2, a3]
    funext i; idx_vars i
    exact Cert.LossRefIdeal.Closed.ref_dh ..
  · rw [Cert.LossRefIdeal.Read.val_main_v21_eq, a0, a1, a2, a3]
    funext i
    obtain rfl : i = ix2 0 0 := by idx_vars i; idx_ext
    exact Cert.LossRefIdeal.Closed.ref_loss ..

end Cert.Proof.Loss

end
-- ==== Proof.ActConv.lean ====
/- The gradient of a causal convolution of three taps along 2048 rows, one channel: what the rows' gradients, the taps' and
   the shift between the two ways of writing a tap's sum are over the extended reals. -/
module

public import Idealize.ShloMosaic.Lib.Pointwise

@[expose] public section

noncomputable section

namespace Cert.ActConv

open Idealize.ShloMosaic

/-- A sequence of 2048 entries followed by zeros. -/
def at0 (d : Fin 2048 → EReal) (n : ℕ) : EReal := if h : n < 2048 then d ⟨n, h⟩ else 0

/-- A sequence behind two zeros. -/
def lag (u : Fin 2048 → EReal) (n : ℕ) : EReal := if n < 2 then 0 else at0 u (n - 2)

theorem at0_val (d : Fin 2048 → EReal) (r : Fin 2048) : at0 d r.val = d r := dif_pos r.isLt

theorem at0_ge (d : Fin 2048 → EReal) {n : ℕ} (h : 2048 ≤ n) : at0 d n = 0 := dif_neg (by omega)

/-- The gradient of the convolution's input. -/
def du (d : Fin 2048 → EReal) (w0 w1 w2 : EReal) (r : Fin 2048) : EReal :=
  w2 * at0 d r.val + w1 * at0 d (r.val + 1) + w0 * at0 d (r.val + 2)

/-- The gradient of the tap that reaches `s` rows back. -/
def dw (u d : Fin 2048 → EReal) (s : ℕ) : EReal := ∑ r : Fin 2048, u r * at0 d (r.val + s)

/-- The three taps' gradients above five rows of zeros. -/
def rows (u d : Fin 2048 → EReal) (k : Fin 8) : EReal :=
  if k.val = 0 then dw u d 2 else if k.val = 1 then dw u d 1 else if k.val = 2 then dw u d 0 else 0

/-- A tap's gradient, as the sum over the convolution's results. -/
theorem sum_lag (u d : Fin 2048 → EReal) {k s : ℕ} (h : s + k = 2) :
    ∑ r : Fin 2048, lag u (r.val + k) * d r = dw u d s := by
  have e1 : ∑ r : Fin 2048, lag u (r.val + k) * d r = ∑ n ∈ Finset.range (s + (2048 - s)), lag u (n + k) * at0 d n := by
    rw [show s + (2048 - s) = 2048 by omega, ← Fin.sum_univ_eq_sum_range (fun n => lag u (n + k) * at0 d n)]
    exact Finset.sum_congr rfl fun r _ => by rw [at0_val]
  have e2 : dw u d s = ∑ n ∈ Finset.range ((2048 - s) + s), at0 u n * at0 d (n + s) := by
    rw [show (2048 - s) + s = 2048 by omega, ← Fin.sum_univ_eq_sum_range (fun n => at0 u n * at0 d (n + s))]
    exact Finset.sum_congr rfl fun r _ => by rw [at0_val]
  rw [e1, e2, Finset.sum_range_add, Finset.sum_range_add]
  rw [Finset.sum_eq_zero (s := Finset.range s) (f := fun n => lag u (n + k) * at0 d n), zero_add,
    Finset.sum_eq_zero (s := Finset.range s), add_zero]
  · refine Finset.sum_congr rfl fun n _ => ?_
    rw [show s + n + k = n + 2 by omega, add_comm s n]
    exact congrArg (· * _) (by unfold lag; rw [if_neg (by omega)]; rfl)
  · intro n _
    rw [at0_ge d (by omega), mul_zero]
  · intro n hn
    have := Finset.mem_range.mp hn
    unfold lag
    rw [if_pos (by omega), zero_mul]

/-- An extended real that is a real. -/
def IsReal (x : EReal) : Prop := ∃ y : ℝ, x = (y : EReal)

theorem IsReal.add {x y : EReal} : IsReal x → IsReal y → IsReal (x + y)
  | ⟨a, ha⟩, ⟨b, hb⟩ => ⟨a + b, by rw [ha, hb]; norm_cast⟩

theorem IsReal.mul {x y : EReal} : IsReal x → IsReal y → IsReal (x * y)
  | ⟨a, ha⟩, ⟨b, hb⟩ => ⟨a * b, by rw [ha, hb]; norm_cast⟩

theorem IsReal.lag {u : Fin 2048 → EReal} (h : ∀ r, IsReal (u r)) (n : ℕ) : IsReal (lag u n) := by
  unfold ActConv.lag at0
  split
  · exact ⟨0, rfl⟩
  · split
    · exact h _
    · exact ⟨0, rfl⟩

/-- The gradient of `silu`, with its two terms added before and after the cotangent is multiplied in. -/
theorem silu_grad {c g : EReal} (hc : IsReal c) (hg : IsReal g) :
    c * Ideal.logistic g + g * c * (Ideal.logistic g * (1 - Ideal.logistic g))
      = c * (Ideal.logistic g * (1 + g * (1 - Ideal.logistic g))) := by
  obtain ⟨c, rfl⟩ := hc
  obtain ⟨g, rfl⟩ := hg
  rw [Ideal.logistic_coe]
  norm_cast
  ring

/-- The two chunks of 1024 rows, each added in 128 groups of eight and the eight last, are the whole sum. -/
theorem sum_chunks {f : Fin 2048 → EReal} {a b : Fin 8 → Fin 128 → EReal}
    (ha : ∀ j g, a j g = f ⟨g.val * 8 + j.val, by omega⟩) (hb : ∀ j g, b j g = f ⟨1024 + (g.val * 8 + j.val), by omega⟩) :
    (∑ j : Fin 8, ((∑ g : Fin 128, a j g) + ∑ g : Fin 128, b j g)) = ∑ r : Fin 2048, f r := by
  simp only [ha, hb]
  rw [Finset.sum_add_distrib]
  refine (congrArg₂ (· + ·) Finset.sum_comm Finset.sum_comm).trans ?_
  have e := fun F : Fin 1024 → EReal => Fin.sum_univ_tiles 128 8 (by decide) F
  rw [← e (fun k => f ⟨k.val, by omega⟩), ← e (fun k => f ⟨1024 + k.val, by omega⟩)]
  rw [Fin.sum_univ_tiles 2 1024 (by decide) f, Fin.sum_univ_two]
  exact congrArg₂ (· + ·) (Finset.sum_congr rfl fun k _ => congrArg f (Fin.ext (by simp)))
    (Finset.sum_congr rfl fun k _ => congrArg f (Fin.ext (by simp)))

/-- A chunk's row read at a rotation, times its input: a term of the tap's gradient. -/
theorem tap_term (u d : Fin 2048 → EReal) {x y : EReal} (s k n : ℕ) (hn : n < 2048) (hx : x = at0 d k) (hk : k = n + s)
    (hy : y = u ⟨n, hn⟩) : x * y = u ⟨n, hn⟩ * at0 d (n + s) := by
  rw [hx, hy, hk, mul_comm]

end Cert.ActConv

end
-- ==== Proof.ActRefClosed.lean ====
/- `ffn_act_bwd`: its reference in closed form. -/
module

public import proofs.«01_k».proof.Defs
public import proofs.«01_k».proof.Proof.Gen.ActRefIdeal.Read
public import proofs.«01_k».proof.Proof.ActConv
public import proofs.«01_k».proof.Proof.Consts
public import proofs.«01_k».proof.Proof.UnitSums
public import Idealize.ShloMosaic.Lib.Pointwise

@[expose] public section

set_option maxRecDepth 16384

noncomputable section

open Idealize.ShloMosaic Idealize.ShloMosaic.TcCoe Idealize.SL.Sem

namespace Cert.ActRefIdeal.Closed

open Cert.ActRefIdeal Cert.ActRefIdeal.Gen Cert.ActRefIdeal.Read Cert.Consts Cert.ActConv

variable (u : FVec Ideal S1x2048x5632 .f32) (w : FVec Ideal S1x3x5632 .f32) (b : FVec Ideal S1x5632 .f32)
  (d : FVec Ideal S1x2048x2816 .f32)

/-- The convolution's result. -/
def pre (r : Fin 2048) (c : Fin 5632) : EReal :=
  lag (fun r => u (ix3 0 r c)) r.val * w (ix3 0 0 c) + lag (fun r => u (ix3 0 r c)) (r.val + 1) * w (ix3 0 1 c)
    + lag (fun r => u (ix3 0 r c)) (r.val + 2) * w (ix3 0 2 c) + b (ix2 0 c)

theorem ref_lag (n : Fin 2050) (c : Fin 5632) :
    val_main_v2 (F := Ideal) u (ix3 0 n c) = lag (fun r => u (ix3 0 r c)) n.val := by
  unfold lag at0
  pointwise [val_main_v2, val_main_v1, val_main_cst]
  by_cases hn : n.val < 2
  · rw [dif_pos hn, if_pos hn]
  · rw [dif_neg hn, if_neg hn, dif_pos (by omega)]

theorem ref_pre (r : Fin 2048) (c : Fin 5632) : val_main_v27 (F := Ideal) u w b (ix3 0 r c) = pre u w b r c := by
  unfold pre
  have h := fun n : Fin 2050 => (ref_lag u n c).symm
  rw [show lag (fun r => u (ix3 0 r c)) r.val = _ from h ⟨r.val, by omega⟩,
    show lag (fun r => u (ix3 0 r c)) (r.val + 1) = _ from h ⟨r.val + 1, by omega⟩,
    show lag (fun r => u (ix3 0 r c)) (r.val + 2) = _ from h ⟨r.val + 2, by omega⟩]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v0]
  simp only [Nat.add_comm 1, Nat.add_comm 2]

theorem pre_real (hu : ∀ i, IsReal (u i)) (hw : ∀ i, IsReal (w i)) (hb : ∀ i, IsReal (b i)) (r : Fin 2048) (c : Fin 5632) :
    IsReal (pre u w b r c) :=
  ((((IsReal.lag (fun _ => hu _) _).mul (hw _)).add ((IsReal.lag (fun _ => hu _) _).mul (hw _))).add
    ((IsReal.lag (fun _ => hu _) _).mul (hw _))).add (hb _)

/-- The gate's column `j`, and the value's. -/
def lo (j : Fin 2816) : Fin 5632 := ⟨j.val, by omega⟩
def hi (j : Fin 2816) : Fin 5632 := ⟨2816 + j.val, by omega⟩

/-- The gradient of `silu g * v` by the gate, and by the value. -/
def dg (r : Fin 2048) (j : Fin 2816) : EReal :=
  d (ix3 0 r j) * pre u w b r (hi j)
    * (Ideal.logistic (pre u w b r (lo j)) * (1 + pre u w b r (lo j) * (1 - Ideal.logistic (pre u w b r (lo j)))))

def dv (r : Fin 2048) (j : Fin 2816) : EReal :=
  d (ix3 0 r j) * (pre u w b r (lo j) * Ideal.logistic (pre u w b r (lo j)))

/-- What the reference spreads over the columns. -/
theorem ref_d (r : Fin 2048) (c : Fin 5632) : val_main_v37 (F := Ideal) u w b d (ix3 0 r c) =
    (if h : 2816 ≤ c.val then val_main_v32 (F := Ideal) u w b d (ix3 0 r ⟨c.val - 2816, by omega⟩) else 0)
      + (if h : c.val < 2816 then val_main_v34 (F := Ideal) u w b d (ix3 0 r ⟨c.val, h⟩) else 0) := by
  pointwise [val_main_v37, val_main_v36, val_main_v35, val_main_cst_1, val_main_cst_2]
  refine congrArg (· + _) ?_
  by_cases h : 2816 ≤ c.val
  · rw [dif_pos ⟨h, by omega⟩, dif_pos h]
  · rw [dif_neg (fun q => h q.1), dif_neg h]

theorem ref_silu (r : Fin 2048) (j : Fin 2816) : val_main_v30_2 (F := Ideal) u w b (ix3 0 r j) = Ideal.logistic (pre u w b r (lo j)) := by
  rw [← ref_pre]
  unfold Ideal.logistic
  pointwise [val_main_v30_2, val_main_call0_v0, val_main_call0_v1, val_main_call0_v2, val_main_call0_v3, val_main_call0_v4, val_main_call0_cst, val_main_call0_cst_0, val_main_v28, ofBits_one, lo]
  rw [EReal.coe_one]

theorem ref_dv (r : Fin 2048) (j : Fin 2816) : val_main_v32 (F := Ideal) u w b d (ix3 0 r j) = dv u w b d r j := by
  unfold dv
  rw [← ref_silu, ← ref_pre]
  pointwise [val_main_v32, val_main_v30_0, val_main_v28, lo]
  exact mul_comm _ _

theorem ref_dg (hu : ∀ i, IsReal (u i)) (hw : ∀ i, IsReal (w i)) (hb : ∀ i, IsReal (b i)) (hd : ∀ i, IsReal (d i))
    (r : Fin 2048) (j : Fin 2816) : val_main_v34 (F := Ideal) u w b d (ix3 0 r j) = dg u w b d r j := by
  unfold dg
  rw [← silu_grad ((hd _).mul (pre_real u w b hu hw hb r (hi j))) (pre_real u w b hu hw hb r (lo j)), ← ref_silu, ← ref_pre, ← ref_pre]
  pointwise [val_main_v34, val_main_call1_v0, val_main_call1_v1, val_main_call1_v2, val_main_v30_1, val_main_call0_v7, val_main_call0_v6, val_main_call0_cst_1, val_main_v28, val_main_v29, val_main_v33, hi, lo, ofBits_one]
  rw [EReal.coe_one]

section Conv

variable (c : Fin 5632)

/-- The convolution's gradient of one channel. -/
def D (c : Fin 5632) (r : Fin 2048) : EReal := val_main_v37 (F := Ideal) u w b d (ix3 0 r c)

theorem ref_du (r : Fin 2048) : val_main_v74 (F := Ideal) u w b d (ix3 0 r c)
    = du (D u w b d c) (w (ix3 0 0 c)) (w (ix3 0 1 c)) (w (ix3 0 2 c)) r := by
  unfold du at0 D
  pointwise [val_main_v74, val_main_v72, val_main_v71, val_main_v66, val_main_v65, val_main_v61, val_main_v60, val_main_v55, val_main_v54, val_main_v50, val_main_v46, val_main_v45, val_main_cst_16, val_main_cst_12, val_main_cst_8, val_main_v20, val_main_v19, val_main_v18, val_main_v13, val_main_v12, val_main_v11, val_main_v7, val_main_v6, val_main_v5, val_main_v0]
  rw [mul_comm (w (ix3 0 2 c)), mul_comm (w (ix3 0 1 c)), mul_comm (w (ix3 0 0 c))]
  simp only [Nat.add_comm 2, Nat.add_sub_cancel, dite_mul, zero_mul]
  by_cases h : r.val + 1 < 2048
  · simp only [dif_pos h, dif_pos (show 1 ≤ r.val + 2 ∧ r.val + 2 - 1 < 2048 from ⟨by omega, h⟩)]
    rfl
  · simp only [dif_neg h, dif_neg (fun q : 1 ≤ r.val + 2 ∧ r.val + 2 - 1 < 2048 => h q.2)]

theorem ref_db : val_main_v41 (F := Ideal) u w b d (ix2 0 c) = ∑ r : Fin 2048, D u w b d c r := by
  unfold D
  pointwise [val_main_v41, val_main_v40, Host.reduceAdd, Ideal.hostReduceAdd_def, Cert.UnitSums.sum_01, val_main_v39, val_main_v38, val_main_cst_3, val_main_cst_4]

theorem ref_tap2 : val_main_v48 (F := Ideal) u w b d (ix2 0 c) = dw (fun r => u (ix3 0 r c)) (D u w b d c) 0 := by
  rw [← sum_lag _ _ (k := 2) rfl]
  unfold D
  pointwise [val_main_v48, val_main_v47, Host.reduceAdd, Ideal.hostReduceAdd_def, Cert.UnitSums.sum_01, val_main_v44, val_main_v43, val_main_v42, val_main_v17, val_main_cst_5, val_main_cst_6]
  exact Finset.sum_congr rfl fun r _ => congrArg (· * _) ((congrArg _ (congrArg (ix3 0 · c) (Fin.ext (Nat.add_comm 2 r.val)))).trans (ref_lag u ⟨r.val + 2, by omega⟩ c))

theorem ref_tap1 : val_main_v57 (F := Ideal) u w b d (ix2 0 c) = dw (fun r => u (ix3 0 r c)) (D u w b d c) 1 := by
  rw [← sum_lag _ _ (k := 1) rfl]
  unfold D
  pointwise [val_main_v57, val_main_v56, Host.reduceAdd, Ideal.hostReduceAdd_def, Cert.UnitSums.sum_01, val_main_v53, val_main_v52, val_main_v51, val_main_v10, val_main_cst_9, val_main_cst_10]
  exact Finset.sum_congr rfl fun r _ => congrArg (· * _) ((congrArg _ (congrArg (ix3 0 · c) (Fin.ext (Nat.add_comm 1 r.val)))).trans (ref_lag u ⟨r.val + 1, by omega⟩ c))

theorem ref_tap0 : val_main_v68 (F := Ideal) u w b d (ix2 0 c) = dw (fun r => u (ix3 0 r c)) (D u w b d c) 2 := by
  rw [← sum_lag _ _ (k := 0) rfl]
  unfold D
  pointwise [val_main_v68, val_main_v67, Host.reduceAdd, Ideal.hostReduceAdd_def, Cert.UnitSums.sum_01, val_main_v64, val_main_v63, val_main_v62, val_main_v4, val_main_cst_13, val_main_cst_14]
  exact Finset.sum_congr rfl fun r _ => congrArg (· * _) (ref_lag u ⟨r.val, by omega⟩ c)

theorem ref_rows (k : Fin 8) : val_main_v78 (F := Ideal) u w b d (ix2 k c) = rows (fun r => u (ix3 0 r c)) (D u w b d c) k := by
  unfold rows
  pointwise [val_main_v78, val_main_v77, val_main_v76, val_main_v75, val_main_v70, val_main_v69, val_main_v59, val_main_v58, val_main_v49, val_main_cst_17, val_main_cst_15, val_main_cst_11, val_main_cst_7]
  rw [← ref_tap0, ← ref_tap1, ← ref_tap2]
  fin_cases k <;> simp

/-- The channel's gradient is the gate's or the value's. -/
theorem D_lo (hu : ∀ i, IsReal (u i)) (hw : ∀ i, IsReal (w i)) (hb : ∀ i, IsReal (b i)) (hd : ∀ i, IsReal (d i)) (j : Fin 2816) :
    D u w b d (lo j) = fun r => dg u w b d r j := by
  funext r
  unfold D
  rw [ref_d, dif_neg (by simp [lo]), dif_pos (show (lo j).val < 2816 from j.isLt), zero_add, ← ref_dg u w b d hu hw hb hd]
  rfl

theorem D_hi (j : Fin 2816) : D u w b d (hi j) = fun r => dv u w b d r j := by
  funext r
  unfold D
  rw [ref_d, dif_pos (by simp [hi]), dif_neg (by simp [hi]), add_zero, ← ref_dv]
  exact congrArg (val_main_v32 (F := Ideal) u w b d) (congrArg (ix3 0 r) (Fin.ext (by simp [hi])))

/-- The six results. -/
theorem ref_0 (r : Fin 2048) (j : Fin 2816) : val_main_v81 (F := Ideal) u w b d (ix2 r j) = val_main_v74 (F := Ideal) u w b d (ix3 0 r (lo j)) := by
  pointwise [val_main_v81, val_main_v80, val_main_v79, lo]

theorem ref_1 (r : Fin 2048) (j : Fin 2816) : val_main_v84 (F := Ideal) u w b d (ix2 r j) = val_main_v74 (F := Ideal) u w b d (ix3 0 r (hi j)) := by
  pointwise [val_main_v84, val_main_v83, val_main_v82, hi]

theorem ref_2 (k : Fin 8) (j : Fin 2816) : val_main_v85 (F := Ideal) u w b d (ix2 k j) = val_main_v78 (F := Ideal) u w b d (ix2 k (lo j)) := by
  pointwise [val_main_v85, lo]

theorem ref_3 (k : Fin 8) (j : Fin 2816) : val_main_v86 (F := Ideal) u w b d (ix2 k j) = val_main_v78 (F := Ideal) u w b d (ix2 k (hi j)) := by
  pointwise [val_main_v86, hi]

theorem ref_4 (j : Fin 2816) : val_main_v87 (F := Ideal) u w b d (ix2 0 j) = val_main_v41 (F := Ideal) u w b d (ix2 0 (lo j)) := by
  pointwise [val_main_v87, lo]

theorem ref_5 (j : Fin 2816) : val_main_v88 (F := Ideal) u w b d (ix2 0 j) = val_main_v41 (F := Ideal) u w b d (ix2 0 (hi j)) := by
  pointwise [val_main_v88, hi]

end Conv

end Cert.ActRefIdeal.Closed

end
-- ==== Proof.ActPoint.lean ====
/- `ffn_act_bwd`: what a grid point of the kernel stores, over the convolution's gradient of its channels. -/
module

public import proofs.«01_k».proof.Defs
public import proofs.«01_k».proof.Proof.Gen.ActBwdIdeal.Skeleton
public import proofs.«01_k».proof.Proof.ActRefClosed
public import proofs.«01_k».proof.Proof.Consts
public import Idealize.ShloMosaic.Lib.Pointwise

@[expose] public section

set_option maxRecDepth 16384

noncomputable section

open Idealize.ShloMosaic Idealize.ShloMosaic.TcCoe Idealize.SL.Sem

namespace Cert.ActBwdIdeal.Closed

open Cert.ActBwdIdeal Cert.ActBwdIdeal.Gen Cert.Consts Cert.ActConv

section Gate

variable {a c : FVec Ideal S1x1040x256 .bf16} {x : FVec Ideal S1040x256 .bf16}
  {a' c' : FVec Ideal S1x1024x256 .bf16} {x' : FVec Ideal S1024x256 .bf16} (n : Fin 1040) (q : Fin 256)

theorem gate_0 : k0_pay11 (F := Ideal) a c x (ix2 n q) = x (ix2 n q) * c (ix3 0 n q)
    * (Ideal.logistic (a (ix3 0 n q)) * (1 + a (ix3 0 n q) * (1 - Ideal.logistic (a (ix3 0 n q))))) := by
  pointwise [k0_pay11, k0_pay7, k0_pay8, k0_pay9, ofBits_one]
  rw [EReal.coe_one]

theorem value_0 : k0_pay10 (F := Ideal) a x (ix2 n q) = x (ix2 n q) * (a (ix3 0 n q) * Ideal.logistic (a (ix3 0 n q))) := by
  pointwise [k0_pay10, k0_pay7, k0_pay8, k0_pay9, ofBits_one]

theorem gate_1 : k0_pay49 (F := Ideal) (k0_pay43 a') (k0_pay45 a') (k0_pay47 c' x') k0_pay48 (ix2 n q) =
    if h : n.val < 1024 then x' (ix2 ⟨n.val, h⟩ q) * c' (ix3 0 ⟨n.val, h⟩ q)
      * (Ideal.logistic (a' (ix3 0 ⟨n.val, h⟩ q)) * (1 + a' (ix3 0 ⟨n.val, h⟩ q) * (1 - Ideal.logistic (a' (ix3 0 ⟨n.val, h⟩ q))))) else 0 := by
  pointwise [k0_pay49, k0_pay40, k0_pay43, k0_pay44, k0_pay45, k0_pay47, k0_pay48, ofBits_one]
  by_cases h : n.val < 1024 <;> simp [h]

theorem value_1 : k0_pay46 (F := Ideal) a' x' (ix2 n q) =
    if h : n.val < 1024 then x' (ix2 ⟨n.val, h⟩ q) * (a' (ix3 0 ⟨n.val, h⟩ q) * Ideal.logistic (a' (ix3 0 ⟨n.val, h⟩ q))) else 0 := by
  pointwise [k0_pay46, k0_pay40, k0_pay43, k0_pay44, k0_pay45, ofBits_one]
  by_cases h : n.val < 1024 <;> simp [h]

end Gate

section Chunks

variable {d u : Fin 2048 → EReal} {w : FVec Ideal S8x256 .f32} {q : Fin 256}
  {a c : FVec Ideal S1x1040x256 .bf16} {x : FVec Ideal S1040x256 .bf16} {p t t0 t1 t2 t3 : FVec Ideal S1040x256 .f32}
  {u0 u1 : FVec Ideal S1024x256 .bf16}

/-- The gate's input gradient, in either chunk. -/
theorem du_gate_0 (hp : ∀ n : Fin 1040, k0_pay11 (F := Ideal) a c x (ix2 n q) = at0 d n.val) (r : Fin 1024) :
    k0_pay30 (F := Ideal) (k0_pay15 (k0_pay2 w) (k0_pay12 a c x) (k0_pay13 a c x) (k0_pay14 a c x)) (ix2 r q)
      = du d (w (ix2 0 q)) (w (ix2 1 q)) (w (ix2 2 q)) ⟨r.val, by omega⟩ := by
  unfold du
  pointwise [k0_pay30, k0_pay15, k0_pay2, k0_pay12, k0_pay13, k0_pay14, hp]
  rw [show (r.val + 1040 - 1039) % 1040 = r.val + 1 by omega, show (r.val + 1040 - 1038) % 1040 = r.val + 2 by omega]

theorem du_gate_1 (ht : ∀ n : Fin 1040, k0_pay49 (F := Ideal) t0 t1 t2 t3 (ix2 n q) = at0 d (1024 + n.val)) (r : Fin 1024) :
    k0_pay64 (F := Ideal) (k0_pay53 (k0_pay2 w) t0 t1 t2 t3) (ix2 r q)
      = du d (w (ix2 0 q)) (w (ix2 1 q)) (w (ix2 2 q)) ⟨1024 + r.val, by omega⟩ := by
  unfold du
  pointwise [k0_pay64, k0_pay53, k0_pay2, k0_pay50, k0_pay51, k0_pay52, ht]
  rw [show (r.val + 1040 - 1039) % 1040 = r.val + 1 by omega, show (r.val + 1040 - 1038) % 1040 = r.val + 2 by omega]
  rfl

/-- The value's. -/
theorem du_value_0 (hp : ∀ n : Fin 1040, p (ix2 n q) = at0 d n.val) (r : Fin 1024) :
    k0_pay31 (F := Ideal) (k0_pay24 (k0_pay3 w) p) (ix2 r q)
      = du d (w (ix2 0 q)) (w (ix2 1 q)) (w (ix2 2 q)) ⟨r.val, by omega⟩ := by
  unfold du
  pointwise [k0_pay31, k0_pay24, k0_pay3, k0_pay21, k0_pay22, k0_pay23, hp]
  rw [show (r.val + 1040 - 1039) % 1040 = r.val + 1 by omega, show (r.val + 1040 - 1038) % 1040 = r.val + 2 by omega]

theorem du_value_1 (ht : ∀ n : Fin 1040, t (ix2 n q) = at0 d (1024 + n.val)) (r : Fin 1024) :
    k0_pay65 (F := Ideal) (k0_pay62 (k0_pay3 w) t) (ix2 r q)
      = du d (w (ix2 0 q)) (w (ix2 1 q)) (w (ix2 2 q)) ⟨1024 + r.val, by omega⟩ := by
  unfold du
  pointwise [k0_pay65, k0_pay62, k0_pay3, k0_pay59, k0_pay60, k0_pay61, ht]
  rw [show (r.val + 1040 - 1039) % 1040 = r.val + 1 by omega, show (r.val + 1040 - 1038) % 1040 = r.val + 2 by omega]
  rfl

/-- The bias's gradients. -/
theorem db_gate (hp : ∀ n : Fin 1040, k0_pay11 (F := Ideal) a c x (ix2 n q) = at0 d n.val)
    (ht : ∀ n : Fin 1040, k0_pay49 (F := Ideal) t0 t1 t2 t3 (ix2 n q) = at0 d (1024 + n.val)) :
    k0_pay75 (F := Ideal) (k0_pay66 (k0_pay32 k0_pay4 (k0_pay17 (k0_pay12 a c x))) (k0_pay55 t0 t1 t2 t3)) (ix2 0 q)
      = ∑ r : Fin 2048, d r := by
  pointwise [k0_pay75, k0_pay66, k0_pay32, k0_pay4, k0_pay17, k0_pay12, k0_pay55, k0_pay50]
  exact sum_chunks (fun j g => (hp _).trans (at0_val d ⟨g.val * 8 + j.val, by omega⟩))
    fun j g => (ht _).trans (at0_val d ⟨1024 + (g.val * 8 + j.val), by omega⟩)

theorem db_value (hp : ∀ n : Fin 1040, p (ix2 n q) = at0 d n.val)
    (ht : ∀ n : Fin 1040, t (ix2 n q) = at0 d (1024 + n.val)) :
    k0_pay80 (F := Ideal) (k0_pay70 (k0_pay36 k0_pay4 (k0_pay26 p)) (k0_pay59 t)) (ix2 0 q)
      = ∑ r : Fin 2048, d r := by
  pointwise [k0_pay80, k0_pay70, k0_pay36, k0_pay4, k0_pay26, k0_pay21, k0_pay59]
  exact sum_chunks (fun j g => (hp _).trans (at0_val d ⟨g.val * 8 + j.val, by omega⟩))
    fun j g => (ht _).trans (at0_val d ⟨1024 + (g.val * 8 + j.val), by omega⟩)

section Taps

variable (h0 : ∀ n : Fin 1024, u0 (ix2 n q) = u ⟨n.val, by omega⟩) (h1 : ∀ n : Fin 1024, u1 (ix2 n q) = u ⟨1024 + n.val, by omega⟩)

include h0 h1

section GateTaps

variable (hp : ∀ n : Fin 1040, k0_pay11 (F := Ideal) a c x (ix2 n q) = at0 d n.val)
  (ht : ∀ n : Fin 1040, k0_pay49 (F := Ideal) t0 t1 t2 t3 (ix2 n q) = at0 d (1024 + n.val))

include hp ht

/-- The taps' gradients, of the gate's channels. -/
theorem dw_gate_2 : k0_pay77 (F := Ideal) (k0_pay67 (k0_pay33 k0_pay4 (k0_pay18 (k0_pay5 u0) (k0_pay14 a c x))) (k0_pay56 (k0_pay41 u1) t0 t1 t2 t3)) (ix2 0 q) = dw u d 2 := by
  pointwise [k0_pay77, k0_pay67, k0_pay33, k0_pay4, k0_pay18, k0_pay16, k0_pay5, k0_pay14, k0_pay56, k0_pay41, k0_pay54, k0_pay52]
  exact sum_chunks (fun j g => tap_term u d 2 _ _ (by omega) (hp _) (by simp only []; omega) (h0 _))
    fun j g => tap_term u d 2 _ _ (by omega) (ht _) (by simp only []; omega) (h1 _)

theorem dw_gate_1 : k0_pay78 (F := Ideal) (k0_pay68 (k0_pay34 k0_pay4 (k0_pay19 (k0_pay5 u0) (k0_pay13 a c x))) (k0_pay57 (k0_pay41 u1) t0 t1 t2 t3)) (ix2 0 q) = dw u d 1 := by
  pointwise [k0_pay78, k0_pay68, k0_pay34, k0_pay4, k0_pay19, k0_pay16, k0_pay5, k0_pay13, k0_pay57, k0_pay41, k0_pay54, k0_pay51]
  exact sum_chunks (fun j g => tap_term u d 1 _ _ (by omega) (hp _) (by simp only []; omega) (h0 _))
    fun j g => tap_term u d 1 _ _ (by omega) (ht _) (by simp only []; omega) (h1 _)

theorem dw_gate_0 : k0_pay79 (F := Ideal) (k0_pay69 (k0_pay35 k0_pay4 (k0_pay20 (k0_pay5 u0) (k0_pay12 a c x))) (k0_pay58 (k0_pay41 u1) t0 t1 t2 t3)) (ix2 0 q) = dw u d 0 := by
  pointwise [k0_pay79, k0_pay69, k0_pay35, k0_pay4, k0_pay20, k0_pay16, k0_pay5, k0_pay12, k0_pay58, k0_pay41, k0_pay54, k0_pay50]
  exact sum_chunks (fun j g => tap_term u d 0 _ _ (by omega) (hp _) (by simp only []; omega) (h0 _))
    fun j g => tap_term u d 0 _ _ (by omega) (ht _) (by simp only []; omega) (h1 _)

end GateTaps

variable (hp : ∀ n : Fin 1040, p (ix2 n q) = at0 d n.val) (ht : ∀ n : Fin 1040, t (ix2 n q) = at0 d (1024 + n.val))

include hp ht

/-- And of the value's. -/
theorem dw_value_2 : k0_pay82 (F := Ideal) (k0_pay71 (k0_pay37 k0_pay4 (k0_pay27 (k0_pay6 u0) p)) (k0_pay42 u1) (k0_pay61 t)) (ix2 0 q) = dw u d 2 := by
  pointwise [k0_pay82, k0_pay71, k0_pay37, k0_pay4, k0_pay27, k0_pay25, k0_pay6, k0_pay23, k0_pay42, k0_pay63, k0_pay61]
  exact sum_chunks (fun j g => tap_term u d 2 _ _ (by omega) (hp _) (by simp only []; omega) (h0 _))
    fun j g => tap_term u d 2 _ _ (by omega) (ht _) (by simp only []; omega) (h1 _)

theorem dw_value_1 : k0_pay83 (F := Ideal) (k0_pay72 (k0_pay38 k0_pay4 (k0_pay28 (k0_pay6 u0) p)) (k0_pay42 u1) (k0_pay60 t)) (ix2 0 q) = dw u d 1 := by
  pointwise [k0_pay83, k0_pay72, k0_pay38, k0_pay4, k0_pay28, k0_pay25, k0_pay6, k0_pay22, k0_pay42, k0_pay63, k0_pay60]
  exact sum_chunks (fun j g => tap_term u d 1 _ _ (by omega) (hp _) (by simp only []; omega) (h0 _))
    fun j g => tap_term u d 1 _ _ (by omega) (ht _) (by simp only []; omega) (h1 _)

theorem dw_value_0 : k0_pay1 (F := Ideal) (k0_pay74 (k0_pay73 (k0_pay39 k0_pay4 (k0_pay29 (k0_pay6 u0) p)) (k0_pay42 u1) (k0_pay59 t))) (ix2 0 q) = dw u d 0 := by
  pointwise [k0_pay1, k0_pay74, k0_pay73, k0_pay39, k0_pay4, k0_pay29, k0_pay25, k0_pay6, k0_pay21, k0_pay42, k0_pay63, k0_pay59]
  exact sum_chunks (fun j g => tap_term u d 0 _ _ (by omega) (hp _) (by simp only []; omega) (h0 _))
    fun j g => tap_term u d 0 _ _ (by omega) (ht _) (by simp only []; omega) (h1 _)

end Taps

end Chunks

end Cert.ActBwdIdeal.Closed

end
-- ==== Proof.ActReads.lean ====
/- `ffn_act_bwd`: the blocks a grid point reads, as entries of the arguments. -/
module

public import proofs.«01_k».proof.Defs
public import proofs.«01_k».proof.Proof.Gen.ActBwdIdeal.Value
public import proofs.«01_k».proof.Proof.ActPoint
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ActBwdIdeal.Closed

open Cert.ActBwdIdeal Cert.ActBwdIdeal.Gen Cert.ActConv

open Cert.ActRefIdeal.Closed (pre lo hi ref_pre)

open Cert.ActRefIdeal.Read (val_main_v27)

variable (m : (ℓ : Loc nD τ sig) → Buf (Elt Ideal) ℓ) (c : Dev nD)

/-- The arguments' arrays: the two inputs of the gate side by side, the taps, the bias, the cotangent. -/
abbrev U : FVec Ideal S1x2048x5632 .f32 := m ((c : Thread nD τ).loc main_arg0)
abbrev W : FVec Ideal S1x3x5632 .f32 := m ((c : Thread nD τ).loc main_arg1)
abbrev B : FVec Ideal S1x5632 .f32 := m ((c : Thread nD τ).loc main_arg2)
abbrev C : FVec Ideal S1x2048x2816 .f32 := m ((c : Thread nD τ).loc main_arg3)

theorem idx : ∀ t : Fin cfg0.N, win0_0.index t = ![0, t.val] ∧ win0_1.index t = ![0, t.val + 11] ∧ win0_2.index t = ![0, t.val]
    ∧ win0_3.index t = ![0, t.val + 11] ∧ win0_4.index t = ![t.val, 0, 0] ∧ win0_5.index t = ![t.val, 0, 0]
    ∧ win0_6.index t = ![0, t.val] ∧ win0_7.index t = ![0, t.val] ∧ win0_8.index t = ![0, t.val]
    ∧ win0_9.index t = ![0, t.val] ∧ win0_10.index t = ![0, t.val] ∧ win0_11.index t = ![0, t.val] ∧ win0_12.index t = ![0, t.val] :=
  (by decide +kernel : ∀ t : Fin grid0.N, _)

theorem V_v29 : V m c main_v29 = concatenate S8x5632 0 [⟨S3x5632, shapeCast S3x5632 (W m c) shapeCasts_S1x3x5632_S3x5632⟩,
    ⟨S5x5632, broadcastInDim S5x5632 ![] bcast_S_S5x5632 (constant (F := Ideal) S_ .f32 0x00000000#32)⟩] concatenates_S3x5632_S5x5632_S8x5632_d0 := by
  unfold V; after_results; rfl

theorem V_v31 : V m c main_v31 = truncf (F := Ideal) .bf16 (shapeCast S2048x5632 (U m c) shapeCasts_S1x2048x5632_S2048x5632) bitsLt_bf16_f32 := by
  unfold V; after_results; rfl

theorem V_v43 : V m c main_v43 = truncf (F := Ideal) .bf16 (shapeCast S2048x2816 (C m c) shapeCasts_S1x2048x2816_S2048x2816) bitsLt_bf16_f32 := by
  unfold V; after_results; rfl

theorem V_v36 : V m c main_v36 = truncf (F := Ideal) .bf16 (transpose S11x2048x256 [1, 0, 2] (shapeCast S2048x11x256 (shapeCast S2048x2816
    (extractStridedSlice S1x2048x2816 ![0, 0, 0] (val_main_v27 (F := Ideal) (U m c) (W m c) (B m c)) slices_S1x2048x5632_S1x2048x2816_0_0_0)
    shapeCasts_S1x2048x2816_S2048x2816) shapeCasts_S2048x2816_S2048x11x256) transposes_S2048x11x256_S11x2048x256_1_0_2) bitsLt_bf16_f32 := by
  unfold V; after_results; rfl

theorem V_v41 : V m c main_v41 = truncf (F := Ideal) .bf16 (transpose S11x2048x256 [1, 0, 2] (shapeCast S2048x11x256 (shapeCast S2048x2816
    (extractStridedSlice S1x2048x2816 ![0, 0, 2816] (val_main_v27 (F := Ideal) (U m c) (W m c) (B m c)) slices_S1x2048x5632_S1x2048x2816_0_0_2816)
    shapeCasts_S1x2048x2816_S2048x2816) shapeCasts_S2048x2816_S2048x11x256) transposes_S2048x11x256_S11x2048x256_1_0_2) bitsLt_bf16_f32 := by
  unfold V; after_results; rfl

variable (t : Fin cfg0.N)

/-- Channel `q` of point `t`'s tile. -/
def chan (q : Fin 256) : Fin 2816 := ⟨t.val * 256 + q, by have := lt_of_lt_of_eq t.isLt N_0; omega⟩

theorem blk_ug (r : Fin 2048) (q : Fin 256) :
    (show FVec Ideal S2048x256 .bf16 from iblk m c 0 t) (ix2 r q) = U m c (ix3 0 r (lo (chan t q))) := by
  refine (congrFun (V_v31 m c) _).trans ?_
  rw [show (win0_0.blk t).view.emb (ix2 r q) = ix2 r (lo (chan t q)) by unfold chan lo; blk_ext [idx t]]
  pointwise

theorem blk_uv (r : Fin 2048) (q : Fin 256) :
    (show FVec Ideal S2048x256 .bf16 from iblk m c 1 t) (ix2 r q) = U m c (ix3 0 r (hi (chan t q))) := by
  refine (congrFun (V_v31 m c) _).trans ?_
  rw [show (win0_1.blk t).view.emb (ix2 r q) = ix2 r (hi (chan t q)) by unfold chan hi; blk_ext [idx t]]
  pointwise

/-- The taps, below them five rows of zeros. -/
theorem blk_wg (k : Fin 8) (h : k.val < 3) (q : Fin 256) :
    (show FVec Ideal S8x256 .f32 from iblk m c 2 t) (ix2 k q) = W m c (ix3 0 ⟨k.val, h⟩ (lo (chan t q))) := by
  refine (congrFun (V_v29 m c) _).trans ?_
  rw [show (win0_2.blk t).view.emb (ix2 k q) = ix2 k (lo (chan t q)) by unfold chan lo; blk_ext [idx t]]
  pointwise
  rw [dif_pos h]

theorem blk_wv (k : Fin 8) (h : k.val < 3) (q : Fin 256) :
    (show FVec Ideal S8x256 .f32 from iblk m c 3 t) (ix2 k q) = W m c (ix3 0 ⟨k.val, h⟩ (hi (chan t q))) := by
  refine (congrFun (V_v29 m c) _).trans ?_
  rw [show (win0_3.blk t).view.emb (ix2 k q) = ix2 k (hi (chan t q)) by unfold chan hi; blk_ext [idx t]]
  pointwise
  rw [dif_pos h]

theorem blk_d (r : Fin 2048) (q : Fin 256) :
    (show FVec Ideal S2048x256 .bf16 from iblk m c 6 t) (ix2 r q) = C m c (ix3 0 r (chan t q)) := by
  refine (congrFun (V_v43 m c) _).trans ?_
  rw [show (win0_6.blk t).view.emb (ix2 r q) = ix2 r (chan t q) by unfold chan; blk_ext [idx t]]
  pointwise

/-- The convolution's result, tile by tile. -/
theorem blk_pg (r : Fin 2048) (q : Fin 256) :
    (show FVec Ideal S1x2048x256 .bf16 from iblk m c 4 t) (ix3 0 r q) = pre (U m c) (W m c) (B m c) r (lo (chan t q)) := by
  rw [← ref_pre]
  refine (congrFun (V_v36 m c) _).trans ?_
  rw [show (win0_4.blk t).view.emb (ix3 0 r q) = ix3 ⟨t.val, lt_of_lt_of_eq t.isLt N_0⟩ r q by blk_ext [idx t]]
  unfold chan lo; pointwise

theorem blk_pv (r : Fin 2048) (q : Fin 256) :
    (show FVec Ideal S1x2048x256 .bf16 from iblk m c 5 t) (ix3 0 r q) = pre (U m c) (W m c) (B m c) r (hi (chan t q)) := by
  rw [← ref_pre]
  refine (congrFun (V_v41 m c) _).trans ?_
  rw [show (win0_5.blk t).view.emb (ix3 0 r q) = ix3 ⟨t.val, lt_of_lt_of_eq t.isLt N_0⟩ r q by blk_ext [idx t]]
  unfold chan hi; pointwise

theorem chunk_zero : (Scalar.indexCast (Scalar.muli 0#32 1024#32)).toNat = 0 := by decide

/-- The two chunks of the blocks: rows below 1040 (1024 of the inputs), and rows from 1024 on. -/
theorem pg_fst (n : Fin 1040) (q : Fin 256) :
    (show FVec Ideal S1x1040x256 .bf16 from View.ld (iblk m c 4 t) (Rect.unit k0_off2 ![1, 1040, 256] k0_off2_inb)) (ix3 0 n q) = pre (U m c) (W m c) (B m c) ⟨n.val, by omega⟩ (lo (chan t q)) := by
  rw [← blk_pg m c t ⟨n.val, by omega⟩ q]; pointwise [k0_off1, k0_off2, k0_off3]; simp only [chunk_zero, zero_add]

theorem pv_fst (n : Fin 1040) (q : Fin 256) :
    (show FVec Ideal S1x1040x256 .bf16 from View.ld (iblk m c 5 t) (Rect.unit k0_off2 ![1, 1040, 256] k0_off2_inb)) (ix3 0 n q) = pre (U m c) (W m c) (B m c) ⟨n.val, by omega⟩ (hi (chan t q)) := by
  rw [← blk_pv m c t ⟨n.val, by omega⟩ q]; pointwise [k0_off1, k0_off2, k0_off3]; simp only [chunk_zero, zero_add]

theorem d_fst (n : Fin 1040) (q : Fin 256) :
    (show FVec Ideal S1040x256 .bf16 from View.ld (iblk m c 6 t) (Rect.unit k0_off3 ![1040, 256] k0_off3_inb)) (ix2 n q) = C m c (ix3 0 ⟨n.val, by omega⟩ (chan t q)) := by
  rw [← blk_d m c t ⟨n.val, by omega⟩ q]; pointwise [k0_off1, k0_off2, k0_off3]; simp only [chunk_zero, zero_add]

theorem ug_fst (n : Fin 1024) (q : Fin 256) :
    (show FVec Ideal S1024x256 .bf16 from View.ld (iblk m c 0 t) (Rect.unit k0_off1 ![1024, 256] k0_off1_inb)) (ix2 n q) = U m c (ix3 0 ⟨n.val, by omega⟩ (lo (chan t q))) := by
  rw [← blk_ug m c t ⟨n.val, by omega⟩ q]; pointwise [k0_off1, k0_off2, k0_off3]; simp only [chunk_zero, zero_add]

theorem uv_fst (n : Fin 1024) (q : Fin 256) :
    (show FVec Ideal S1024x256 .bf16 from View.ld (iblk m c 1 t) (Rect.unit k0_off1 ![1024, 256] k0_off1_inb)) (ix2 n q) = U m c (ix3 0 ⟨n.val, by omega⟩ (hi (chan t q))) := by
  rw [← blk_uv m c t ⟨n.val, by omega⟩ q]; pointwise [k0_off1, k0_off2, k0_off3]; simp only [chunk_zero, zero_add]

theorem pg_snd (n : Fin 1024) (q : Fin 256) :
    (show FVec Ideal S1x1024x256 .bf16 from View.ld (iblk m c 4 t) (Rect.unit ![0, 1024, 0] ![1, 1024, 256] inb_S1x2048x256_S1x1024x256_0_1024_0)) (ix3 0 n q) = pre (U m c) (W m c) (B m c) ⟨1024 + n.val, by omega⟩ (lo (chan t q)) := by
  rw [← blk_pg m c t ⟨1024 + n.val, by omega⟩ q]; pointwise

theorem pv_snd (n : Fin 1024) (q : Fin 256) :
    (show FVec Ideal S1x1024x256 .bf16 from View.ld (iblk m c 5 t) (Rect.unit ![0, 1024, 0] ![1, 1024, 256] inb_S1x2048x256_S1x1024x256_0_1024_0)) (ix3 0 n q) = pre (U m c) (W m c) (B m c) ⟨1024 + n.val, by omega⟩ (hi (chan t q)) := by
  rw [← blk_pv m c t ⟨1024 + n.val, by omega⟩ q]; pointwise

theorem d_snd (n : Fin 1024) (q : Fin 256) :
    (show FVec Ideal S1024x256 .bf16 from View.ld (iblk m c 6 t) (Rect.unit ![1024, 0] ![1024, 256] inb_S2048x256_S1024x256_1024_0)) (ix2 n q) = C m c (ix3 0 ⟨1024 + n.val, by omega⟩ (chan t q)) := by
  rw [← blk_d m c t ⟨1024 + n.val, by omega⟩ q]; pointwise

theorem ug_snd (n : Fin 1024) (q : Fin 256) :
    (show FVec Ideal S1024x256 .bf16 from View.ld (iblk m c 0 t) (Rect.unit ![1024, 0] ![1024, 256] inb_S2048x256_S1024x256_1024_0)) (ix2 n q) = U m c (ix3 0 ⟨1024 + n.val, by omega⟩ (lo (chan t q))) := by
  rw [← blk_ug m c t ⟨1024 + n.val, by omega⟩ q]; pointwise

theorem uv_snd (n : Fin 1024) (q : Fin 256) :
    (show FVec Ideal S1024x256 .bf16 from View.ld (iblk m c 1 t) (Rect.unit ![1024, 0] ![1024, 256] inb_S2048x256_S1024x256_1024_0)) (ix2 n q) = U m c (ix3 0 ⟨1024 + n.val, by omega⟩ (hi (chan t q))) := by
  rw [← blk_uv m c t ⟨1024 + n.val, by omega⟩ q]; pointwise

end Cert.ActBwdIdeal.Closed

end
-- ==== Proof.Finite.lean ====
/- What a precondition `jnp.abs(x) < jnp.inf` says of its argument. -/
module

public import Idealize.ShloMosaic.PureOps.Ideal
public import Idealize.ShloMosaic.Lib.Pointwise
public import proofs.«01_k».proof.Proof.ActConv

@[expose] public section

noncomputable section

namespace Cert.Finite

open Idealize.ShloMosaic Cert.ActConv

theorem ofBits_inf : Ideal.ofBits .f32 0x7F800000#32 = ⊤ := by simp [Ideal.ofBits, Ideal.ieee]

/-- An array whose absolute values all compare below infinity has real entries. -/
theorem isReal_of_cmpf {s : Shape} {x : FVec Ideal s .f32} {S : Shape} {dims : Fin S.rank → Fin s.rank} {hb : S.BroadcastsInDim s dims}
    (h : cmpf .olt (Host.absf x) (broadcastInDim s dims hb (constant S .f32 0x7F800000#32)) = fun _ => 1#1) (i : s.Idx) :
    IsReal (x i) := by
  have e := congrFun h i
  pointwise [ofBits_inf] at e
  have lt : max (x i : EReal) (-(x i : EReal)) < ⊤ := by
    by_contra hn
    rw [show FloatOps.absf (x i) = max (x i : EReal) (-(x i : EReal)) from rfl, decide_eq_false hn] at e
    exact absurd e (by decide)
  rw [max_lt_iff] at lt
  exact ⟨(x i : EReal).toReal, (EReal.coe_toReal lt.1.ne (fun hb => by rw [hb] at lt; simp at lt)).symm⟩

end Cert.Finite

end
-- ==== Proof.ActValue.lean ====
/- The value claim of `ffn_act_bwd`. -/
module

public import proofs.«01_k».proof.Defs
public import proofs.«01_k».proof.Proof.ActReads
public import proofs.«01_k».proof.Proof.Gen.ActBwd.Frame
public import proofs.«01_k».proof.Proof.Gen.Pre_act_finite
public import proofs.«01_k».proof.Proof.Finite
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ActBwdIdeal.Closed

open Cert.ActBwdIdeal Cert.ActBwdIdeal.Gen Cert.ActConv

open Cert.ActRefIdeal.Closed (pre lo hi dg dv)

section Chunks

variable {u : FVec Ideal S1x2048x5632 .f32} {w : FVec Ideal S1x3x5632 .f32} {b : FVec Ideal S1x5632 .f32} {e : FVec Ideal S1x2048x2816 .f32}
  {j : Fin 2816} {q : Fin 256}

section First

variable {a c : FVec Ideal S1x1040x256 .bf16} {x : FVec Ideal S1040x256 .bf16}
  (ha : ∀ n : Fin 1040, a (ix3 0 n q) = pre u w b ⟨n.val, by omega⟩ (lo j))
  (hx : ∀ n : Fin 1040, x (ix2 n q) = e (ix3 0 ⟨n.val, by omega⟩ j))

include ha hx

/-- The first chunk's rows of the gate's and the value's gradient. -/
theorem gate_fst (hc : ∀ n : Fin 1040, c (ix3 0 n q) = pre u w b ⟨n.val, by omega⟩ (hi j)) (n : Fin 1040) :
    k0_pay11 (F := Ideal) a c x (ix2 n q) = at0 (fun r => dg u w b e r j) n.val := by
  rw [gate_0, ha, hc, hx]
  exact (at0_val (fun r => dg u w b e r j) ⟨n.val, by omega⟩).symm

theorem value_fst (n : Fin 1040) : k0_pay10 (F := Ideal) a x (ix2 n q) = at0 (fun r => dv u w b e r j) n.val := by
  rw [value_0, ha, hx]
  exact (at0_val (fun r => dv u w b e r j) ⟨n.val, by omega⟩).symm

end First

section Second

variable {a c : FVec Ideal S1x1024x256 .bf16} {x : FVec Ideal S1024x256 .bf16}
  (ha : ∀ n : Fin 1024, a (ix3 0 n q) = pre u w b ⟨1024 + n.val, by omega⟩ (lo j))
  (hx : ∀ n : Fin 1024, x (ix2 n q) = e (ix3 0 ⟨1024 + n.val, by omega⟩ j))

include ha hx

/-- The second chunk's, and zeros below them. -/
theorem gate_snd (hc : ∀ n : Fin 1024, c (ix3 0 n q) = pre u w b ⟨1024 + n.val, by omega⟩ (hi j)) (n : Fin 1040) :
    k0_pay49 (F := Ideal) (k0_pay43 a) (k0_pay45 a) (k0_pay47 c x) k0_pay48 (ix2 n q) = at0 (fun r => dg u w b e r j) (1024 + n.val) := by
  rw [gate_1]
  by_cases h : n.val < 1024
  · rw [dif_pos h, ha, hc, hx]
    exact (at0_val (fun r => dg u w b e r j) ⟨1024 + n.val, by omega⟩).symm
  · rw [dif_neg h, at0_ge _ (by omega)]

theorem value_snd (n : Fin 1040) : k0_pay46 (F := Ideal) a x (ix2 n q) = at0 (fun r => dv u w b e r j) (1024 + n.val) := by
  rw [value_1]
  by_cases h : n.val < 1024
  · rw [dif_pos h, ha, hx]
    exact (at0_val (fun r => dv u w b e r j) ⟨1024 + n.val, by omega⟩).symm
  · rw [dif_neg h, at0_ge _ (by omega)]

end Second

end Chunks

variable (m : (ℓ : Loc nD τ sig) → Buf (Elt Ideal) ℓ) (c : Dev nD) (t : Fin cfg0.N)

/-- The gradient of the convolution's result, in the gate's channel `j` and in the value's. -/
abbrev dG (j : Fin 2816) : Fin 2048 → EReal := fun r => dg (U m c) (W m c) (B m c) (C m c) r j
abbrev dV (j : Fin 2816) : Fin 2048 → EReal := fun r => dv (U m c) (W m c) (B m c) (C m c) r j

/-- Three rows stored over a block of zeros, the last first. -/
theorem three_rows (w2 w1 w0 : FVec Ideal S1x256 .f32) (z : FVec Ideal S8x256 .f32) (k : Fin 8) (q : Fin 256) :
    View.canon (Val := Elt Ideal) (e := .f32) [⟨Rect.unit ![2, 0] ![1, 256] inb_S8x256_S1x256_2_0, w2⟩,
      ⟨Rect.unit ![1, 0] ![1, 256] inb_S8x256_S1x256_1_0, w1⟩, ⟨Rect.unit ![0, 0] ![1, 256] inb_S8x256_S1x256_0_0, w0⟩,
      ⟨Rect.unit ![0, 0] ![8, 256] inb_S8x256_S8x256_0_0, z⟩] (ix2 k q)
      = if k.val = 0 then w0 (ix2 0 q) else if k.val = 1 then w1 (ix2 0 q) else if k.val = 2 then w2 (ix2 0 q) else z (ix2 k q) := by
  have skip : ∀ (n : ℕ) (i : ∀ a, (![n, 0] : Fin 2 → ℕ) a + (![1, 256] : Fin 2 → ℕ) a ≤ S8x256.size a) (w : FVec Ideal S1x256 .f32)
      (L : List (View.Piece (Elt Ideal) S8x256 .f32)), k.val ≠ n →
      View.canon (⟨Rect.unit ![n, 0] ![1, 256] i, w⟩ :: L) (ix2 k q) = View.canon L (ix2 k q) := fun n i w L h => by
    refine View.canon_cons_of_not_mem _ _ fun hm => h ?_
    have := ((Rect.mem_set_unit (inb := i)).mp hm) 0
    simp at this
    omega
  have hit : ∀ (n : ℕ) (i : ∀ a, (![n, 0] : Fin 2 → ℕ) a + (![1, 256] : Fin 2 → ℕ) a ≤ S8x256.size a) (w : FVec Ideal S1x256 .f32)
      (L : List (View.Piece (Elt Ideal) S8x256 .f32)), k.val = n →
      View.canon (⟨Rect.unit ![n, 0] ![1, 256] i, w⟩ :: L) (ix2 k q) = w (ix2 0 q) := fun n i w L h => by
    rw [show ix2 k q = (Rect.unit ![n, 0] ![1, 256] i).emb (ix2 0 q) by idx_ext]
    exact View.canon_cons_emb _ _ _ _
  by_cases h0 : k.val = 0
  · rw [if_pos h0, skip 2 _ _ _ (by omega), skip 1 _ _ _ (by omega), hit 0 _ _ _ h0]
  by_cases h1 : k.val = 1
  · rw [if_neg h0, if_pos h1, skip 2 _ _ _ (by omega), hit 1 _ _ _ h1]
  by_cases h2 : k.val = 2
  · rw [if_neg h0, if_neg h1, if_pos h2, hit 2 _ _ _ h2]
  rw [if_neg h0, if_neg h1, if_neg h2, skip 2 _ _ _ h2, skip 1 _ _ _ h1, skip 0 _ _ _ h0]
  canon_tiles x hx
  exact congrArg z (by idx_vars x; exact congrArg₂ ix2 (Fin.ext hx0.symm) (Fin.ext hx1.symm))

/-- The three rows of a tap's gradient over zeros. -/
theorem rows_of {u d : Fin 2048 → EReal} {w2 w1 w0 z : EReal} (k : Fin 8) (h0 : w0 = dw u d 2) (h1 : w1 = dw u d 1) (h2 : w2 = dw u d 0)
    (hz : z = 0) : (if k.val = 0 then w0 else if k.val = 1 then w1 else if k.val = 2 then w2 else z) = rows u d k := by
  rw [h0, h1, h2, hz]
  unfold rows
  fin_cases k <;> rfl

theorem du_taps {w : FVec Ideal S8x256 .f32} {q : Fin 256} {v : Fin 3 → EReal} (d : Fin 2048 → EReal)
    (h : ∀ (k : Fin 8) (hk : k.val < 3), w (ix2 k q) = v ⟨k.val, hk⟩) (r : Fin 2048) :
    du d (w (ix2 0 q)) (w (ix2 1 q)) (w (ix2 2 q)) r = du d (v 0) (v 1) (v 2) r := by
  rw [h 0 (by decide), h 1 (by decide), h 2 (by decide)]; rfl

theorem outs7 (y : S2048x256.Idx) : (outsAt0 m c t).1 y = du (dG m c (chan t (y 1))) (W m c (ix3 0 0 (lo (chan t (y 1)))))
    (W m c (ix3 0 1 (lo (chan t (y 1))))) (W m c (ix3 0 2 (lo (chan t (y 1))))) (y 0) := by
  unfold outsAt0; idx_vars y; frame_out
  canon_tiles x hx <;> obtain ⟨r, q, rfl⟩ : ∃ (r : Fin 1024) (q : Fin 256), x = ix2 r q := ⟨x 0, x 1, by idx_vars x⟩
  · obtain rfl : y1 = q := Fin.ext hx1
    obtain rfl : y0 = ⟨1024 + r.val, Nat.add_lt_add_left r.isLt 1024⟩ := Fin.ext hx0
    exact (du_gate_1 (d := dG m c (chan t y1)) (gate_snd (pg_snd m c t · y1) (d_snd m c t · y1) (pv_snd m c t · y1)) r).trans (du_taps (v := fun k => W m c (ix3 0 k (lo (chan t y1)))) _ (fun k h => blk_wg m c t k h y1) _)
  · obtain rfl : y1 = q := Fin.ext hx1
    obtain rfl : y0 = ⟨r.val, by have := r.isLt; clear * - this; omega⟩ := Fin.ext (hx0.trans (by simp [chunk_zero]))
    exact (du_gate_0 (d := dG m c (chan t y1)) (gate_fst (pg_fst m c t · y1) (d_fst m c t · y1) (pv_fst m c t · y1)) r).trans (du_taps (v := fun k => W m c (ix3 0 k (lo (chan t y1)))) _ (fun k h => blk_wg m c t k h y1) _)

theorem outs8 (y : S2048x256.Idx) : (outsAt0 m c t).2.1 y = du (dV m c (chan t (y 1))) (W m c (ix3 0 0 (hi (chan t (y 1)))))
    (W m c (ix3 0 1 (hi (chan t (y 1))))) (W m c (ix3 0 2 (hi (chan t (y 1))))) (y 0) := by
  unfold outsAt0; idx_vars y; frame_out
  canon_tiles x hx <;> obtain ⟨r, q, rfl⟩ : ∃ (r : Fin 1024) (q : Fin 256), x = ix2 r q := ⟨x 0, x 1, by idx_vars x⟩
  · obtain rfl : y1 = q := Fin.ext hx1
    obtain rfl : y0 = ⟨1024 + r.val, Nat.add_lt_add_left r.isLt 1024⟩ := Fin.ext hx0
    exact (du_value_1 (d := dV m c (chan t y1)) (value_snd (pg_snd m c t · y1) (d_snd m c t · y1)) r).trans (du_taps (v := fun k => W m c (ix3 0 k (hi (chan t y1)))) _ (fun k h => blk_wv m c t k h y1) _)
  · obtain rfl : y1 = q := Fin.ext hx1
    obtain rfl : y0 = ⟨r.val, by have := r.isLt; clear * - this; omega⟩ := Fin.ext (hx0.trans (by simp [chunk_zero]))
    exact (du_value_0 (d := dV m c (chan t y1)) (value_fst (pg_fst m c t · y1) (d_fst m c t · y1)) r).trans (du_taps (v := fun k => W m c (ix3 0 k (hi (chan t y1)))) _ (fun k h => blk_wv m c t k h y1) _)

theorem outs9 (y : S8x256.Idx) : (outsAt0 m c t).2.2.1 y
    = rows (fun r => U m c (ix3 0 r (lo (chan t (y 1))))) (dG m c (chan t (y 1))) (y 0) := by
  unfold outsAt0; idx_vars y; frame_out
  have hp := fun n => gate_fst (pg_fst m c t · y1) (d_fst m c t · y1) (pv_fst m c t · y1) n
  have ht := fun n => gate_snd (pg_snd m c t · y1) (d_snd m c t · y1) (pv_snd m c t · y1) n
  have h0 := fun n => ug_fst m c t n y1
  have h1 := fun n => ug_snd m c t n y1
  refine (three_rows _ _ _ _ y0 y1).trans (rows_of y0 (dw_gate_2 h0 h1 hp ht) (dw_gate_1 h0 h1 hp ht) (dw_gate_0 h0 h1 hp ht) ?_)
  pointwise [k0_pay76]

theorem outs10 (y : S8x256.Idx) : (outsAt0 m c t).2.2.2.1 y
    = rows (fun r => U m c (ix3 0 r (hi (chan t (y 1))))) (dV m c (chan t (y 1))) (y 0) := by
  unfold outsAt0; idx_vars y; frame_out
  have hp := fun n => value_fst (pg_fst m c t · y1) (d_fst m c t · y1) n
  have ht := fun n => value_snd (pg_snd m c t · y1) (d_snd m c t · y1) n
  have h0 := fun n => uv_fst m c t n y1
  have h1 := fun n => uv_snd m c t n y1
  refine (three_rows _ _ _ _ y0 y1).trans (rows_of y0 (dw_value_2 h0 h1 hp ht) (dw_value_1 h0 h1 hp ht) (dw_value_0 h0 h1 hp ht) ?_)
  pointwise [k0_pay81]

theorem outs11 (y : S1x256.Idx) : (outsAt0 m c t).2.2.2.2.1 y = ∑ r : Fin 2048, dG m c (chan t (y 1)) r := by
  unfold outsAt0; idx_vars y; frame_out
  obtain rfl : y0 = 0 := Subsingleton.elim _ _
  exact db_gate (gate_fst (pg_fst m c t · y1) (d_fst m c t · y1) (pv_fst m c t · y1))
    (gate_snd (pg_snd m c t · y1) (d_snd m c t · y1) (pv_snd m c t · y1))

theorem outs12 (y : S1x256.Idx) : (outsAt0 m c t).2.2.2.2.2 y = ∑ r : Fin 2048, dV m c (chan t (y 1)) r := by
  unfold outsAt0; idx_vars y; frame_out
  obtain rfl : y0 = 0 := Subsingleton.elim _ _
  exact db_value (value_fst (pg_fst m c t · y1) (d_fst m c t · y1))
    (value_snd (pg_snd m c t · y1) (d_snd m c t · y1))

/-- The results as arrays of the arguments. -/
def DU (d : Fin 2816 → Fin 2048 → EReal) (h : Fin 2816 → Fin 5632) : FVec Ideal S2048x2816 .bf16 := fun i =>
  du (d (i 1)) (W m c (ix3 0 0 (h (i 1)))) (W m c (ix3 0 1 (h (i 1)))) (W m c (ix3 0 2 (h (i 1)))) (i 0)
def DW (d : Fin 2816 → Fin 2048 → EReal) (h : Fin 2816 → Fin 5632) : FVec Ideal S8x2816 .f32 := fun i =>
  rows (fun r => U m c (ix3 0 r (h (i 1)))) (d (i 1)) (i 0)
def DB (d : Fin 2816 → Fin 2048 → EReal) : FVec Ideal S1x2816 .f32 := fun i => ∑ r : Fin 2048, d (i 1) r

theorem final7 : (dats m 0 c).arrAt 7 (cfgs 0).N = DU m c (dG m c) lo := by
  refine (dats m 0 c).arrAt_eq_of_covers 7 _ (by decide +kernel) fun t hf y => ?_
  blk_simp
  rw [after0_7]
  refine (outs7 m c t y).trans ?_
  exact congrArg₂ (fun p q => DU m c (dG m c) lo (ix2 p q)) (Fin.ext (by blk_simp [idx t])) (Fin.ext (by blk_simp [idx t]))

theorem final8 : (dats m 0 c).arrAt 8 (cfgs 0).N = DU m c (dV m c) hi := by
  refine (dats m 0 c).arrAt_eq_of_covers 8 _ (by decide +kernel) fun t hf y => ?_
  blk_simp
  rw [after0_8]
  refine (outs8 m c t y).trans ?_
  exact congrArg₂ (fun p q => DU m c (dV m c) hi (ix2 p q)) (Fin.ext (by blk_simp [idx t])) (Fin.ext (by blk_simp [idx t]))

theorem final9 : (dats m 0 c).arrAt 9 (cfgs 0).N = DW m c (dG m c) lo := by
  refine (dats m 0 c).arrAt_eq_of_covers 9 _ (by decide +kernel) fun t hf y => ?_
  blk_simp
  rw [after0_9]
  refine (outs9 m c t y).trans ?_
  exact congrArg₂ (fun p q => DW m c (dG m c) lo (ix2 p q)) (Fin.ext (by blk_simp [idx t])) (Fin.ext (by blk_simp [idx t]))

theorem final10 : (dats m 0 c).arrAt 10 (cfgs 0).N = DW m c (dV m c) hi := by
  refine (dats m 0 c).arrAt_eq_of_covers 10 _ (by decide +kernel) fun t hf y => ?_
  blk_simp
  rw [after0_10]
  refine (outs10 m c t y).trans ?_
  exact congrArg₂ (fun p q => DW m c (dV m c) hi (ix2 p q)) (Fin.ext (by blk_simp [idx t])) (Fin.ext (by blk_simp [idx t]))

theorem final11 : (dats m 0 c).arrAt 11 (cfgs 0).N = DB (dG m c) := by
  refine (dats m 0 c).arrAt_eq_of_covers 11 _ (by decide +kernel) fun t hf y => ?_
  blk_simp
  rw [after0_11]
  refine (outs11 m c t y).trans ?_
  exact congrArg (fun q => ∑ r : Fin 2048, dG m c q r) (Fin.ext (by unfold chan; blk_simp [idx t]))

theorem final12 : (dats m 0 c).arrAt 12 (cfgs 0).N = DB (dV m c) := by
  refine (dats m 0 c).arrAt_eq_of_covers 12 _ (by decide +kernel) fun t hf y => ?_
  blk_simp
  rw [after0_12]
  refine (outs12 m c t y).trans ?_
  exact congrArg (fun q => ∑ r : Fin 2048, dV m c q r) (Fin.ext (by unfold chan; blk_simp [idx t]))

/-- The precondition, read. -/
theorem pre_real (h : Cert.Pre_ActBwdIdeal_act_finite m) : (∀ i, IsReal (U m c i)) ∧ (∀ i, IsReal (W m c i)) ∧ (∀ i, IsReal (B m c i))
    ∧ ∀ i, IsReal (C m c i) := by
  obtain ⟨h0, h1, h2, h3⟩ := h c
  simp only [Cert.Pre_act_finite.fn] at h0 h1 h2 h3
  exact ⟨Cert.Finite.isReal_of_cmpf h0, Cert.Finite.isReal_of_cmpf h1, Cert.Finite.isReal_of_cmpf h2, Cert.Finite.isReal_of_cmpf h3⟩

end Cert.ActBwdIdeal.Closed

namespace Cert.Proof.Act

open Cert.ActBwdIdeal.Closed

open Cert.ActRefIdeal.Closed (lo hi D_lo D_hi ref_0 ref_1 ref_2 ref_3 ref_4 ref_5 ref_du ref_rows ref_db)

theorem frame_p : Cert.quiescent_ActBwd := fun m ρ _ => Cert.ActBwd.Gen.frame m ρ
theorem frame_pi : Cert.quiescent_ActBwdIdeal := fun m ρ _ => Cert.ActBwdIdeal.Gen.frame m ρ
theorem frame_pi_pre : Cert.quiescent_ActBwdIdeal_pre_act_finite := fun m ρ _ => Cert.ActBwdIdeal.Gen.frame m ρ
theorem frame_ri : Cert.quiescent_ActRefIdeal := fun m ρ _ =>
  (θ_run Cert.ActRefIdeal.defs _ _).mono (fun r h => ⟨fun c => (h c).2.2.2.2.2.2, sem_eq_zero_of_no_sems (by decide) r.2⟩)
    (Cert.ActRefIdeal.Value.run (F := Ideal) m ρ)
theorem frame_ri_pre : Cert.quiescent_ActRefIdeal_pre_act_finite := fun m ρ _ => frame_ri m ρ trivial
theorem preserves : Cert.preserves_ActBwd_ActBwdIdeal := trivial

/-- Both programs end with the closed forms of the arguments. -/
theorem value : Cert.algebraic_ActBwdIdeal_ActRefIdeal_pre_act_finite := by
  intro m g m' g' hpre hm
  refine ⟨fun c => DU m c (dG m c) lo, fun c => DU m c (dV m c) hi, fun c => DW m c (dG m c) lo, fun c => DW m c (dV m c) hi,
    fun c => DB (dG m c), fun c => DB (dV m c),
    (θ_run Cert.ActBwdIdeal.defs _ _).mono (fun r h c => ?_) (Cert.ActBwdIdeal.Value.run_blocks m g),
    (θ_run Cert.ActRefIdeal.defs _ _).mono (fun r h c => ?_) (Cert.ActRefIdeal.Value.run m' g')⟩
  · obtain ⟨h0, h1, h2, h3, h4, h5, hk⟩ := h c
    exact ⟨h0.trans (final7 m c), h1.trans (final8 m c), h2.trans (final9 m c), h3.trans (final10 m c), h4.trans (final11 m c),
      h5.trans (final12 m c), hk⟩
  · obtain ⟨h0, h1, h2, h3, h4, h5, hk⟩ := h c
    obtain ⟨a0, a1, a2, a3⟩ := hm c
    obtain ⟨r0, r1, r2, r3⟩ := pre_real m c hpre
    have eG := D_lo (U m c) (W m c) (B m c) (C m c) r0 r1 r2 r3
    have eV := D_hi (U m c) (W m c) (B m c) (C m c)
    refine ⟨h0.trans ?_, h1.trans ?_, h2.trans ?_, h3.trans ?_, h4.trans ?_, h5.trans ?_, hk⟩
    · rw [Cert.ActRefIdeal.Read.val_main_v81_eq, a0, a1, a2, a3]
      funext i; idx_vars i
      rw [ref_0, ref_du, eG]; rfl
    · rw [Cert.ActRefIdeal.Read.val_main_v84_eq, a0, a1, a2, a3]
      funext i; idx_vars i
      rw [ref_1, ref_du, eV]; rfl
    · rw [Cert.ActRefIdeal.Read.val_main_v85_eq, a0, a1, a2, a3]
      funext i; idx_vars i
      rw [ref_2, ref_rows, eG]; rfl
    · rw [Cert.ActRefIdeal.Read.val_main_v86_eq, a0, a1, a2, a3]
      funext i; idx_vars i
      rw [ref_3, ref_rows, eV]; rfl
    · rw [Cert.ActRefIdeal.Read.val_main_v87_eq, a0, a1, a2, a3]
      funext i
      obtain ⟨j, rfl⟩ : ∃ j : Fin 2816, i = ix2 0 j := ⟨i 1, by idx_vars i; idx_ext⟩
      rw [ref_4, ref_db, eG]; rfl
    · rw [Cert.ActRefIdeal.Read.val_main_v88_eq, a0, a1, a2, a3]
      funext i
      obtain ⟨j, rfl⟩ : ∃ j : Fin 2816, i = ix2 0 j := ⟨i 1, by idx_vars i; idx_ext⟩
      rw [ref_5, ref_db, eV]; rfl

end Cert.Proof.Act

end
-- ==== Proof.FwdForm.lean ====
/- The token mixer's forward pass in closed form, over functions of rows and channels: the causal convolution of three taps,
   the attention over a band of 256 keys with a sink, the norms. -/
module

public import Idealize.ShloMosaic.Lib.Pointwise
public import proofs.«01_k».proof.Proof.Consts
public import proofs.«01_k».proof.Proof.ActConv

@[expose] public section

noncomputable section

namespace Cert.Mixer

open Idealize.ShloMosaic Cert.ActConv

/-- The reciprocal root of a mean of squares plus `ε`, `n` the pattern of the number of values. -/
def rms {ι : Type} [Fintype ι] (n : BitVec 32) (f : ι → EReal) : EReal :=
  Ideal.rsqrt (Ideal.div (∑ k, f k * f k) (Ideal.ofBits .f32 n) + Ideal.ofBits .f32 0x358637BD#32)

/-- `0.125`. -/
theorem ofBits_eighth : Ideal.ofBits .f32 0x3E000000#32 = ((1 / 8 : ℝ) : EReal) := by
  simp [Ideal.ofBits, Ideal.ieee, -EReal.coe_mul]; norm_num

/-- The bits of `-∞`. -/
theorem ofBits_bot : Ideal.ofBits .f32 0xFF800000#32 = ⊥ := by simp [Ideal.ofBits, Ideal.ieee]

/-- A band of keys: the 128 rows before block `n`, zeros for the first block, and the block's own. -/
def band (f : Fin 2048 → EReal) (n : Fin 16) (j : Fin 256) : EReal :=
  if h : 128 ≤ 128 * n.val + j.val then f ⟨128 * n.val + j.val - 128, by omega⟩ else 0

/-- Whether key `j` lies in the window of query `q`. -/
def within (q : Fin 128) (j : Fin 256) : BitVec 1 :=
  IntOp.andi (IntOp.cmpi .sge (IntOp.subi (IntOp.addi (BitVec.ofNat 32 q.val) 128#32) (BitVec.ofNat 32 j.val)) 0#32)
    (IntOp.cmpi .slt (IntOp.subi (IntOp.addi (BitVec.ofNat 32 q.val) 128#32) (BitVec.ofNat 32 j.val)) 128#32)

/-- Whether key `j` of block `n`'s band is a row of the sequence. -/
def inside (n : Fin 16) (j : Fin 256) : BitVec 1 :=
  IntOp.cmpi .sge (IntOp.addi (IntOp.muli (IntOp.subi (BitVec.ofNat 32 n.val) 1#32) 128#32) (BitVec.ofNat 32 j.val)) 0#32

/-- A masked score. -/
def score (b : BitVec 1) (Q K : Fin 64 → EReal) (bias : EReal) : EReal :=
  Scalar.select b ((∑ d, Q d * K d) * ((1 / 8 : ℝ) : EReal) + bias) ⊥

/-- The greatest of the scores and the sink. -/
def top (S : Fin 256 → EReal) (s : EReal) : EReal := max (Finset.univ.fold max ⊥ S) s

/-- The softmax's denominator. -/
def den (S : Fin 256 → EReal) (s : EReal) : EReal := ∑ k, Ideal.exp (S k - top S s) + Ideal.exp (s - top S s)

/-- One element of the attention's result. -/
def att (S : Fin 256 → EReal) (s : EReal) (V : Fin 256 → EReal) : EReal :=
  ∑ j, Ideal.div (Ideal.exp (S j - top S s)) (den S s) * V j

/-- The scale folded into the query. -/
theorem score_scaled (b : BitVec 1) (Q K : Fin 64 → EReal) (bias : EReal) :
    Scalar.select b ((∑ d, Q d * ((1 / 8 : ℝ) : EReal) * K d) + bias) ⊥ = score b Q K bias := by
  unfold score
  rw [Consts.sum_mul_coe _ _ (by norm_num)]
  refine congrArg (fun x => Scalar.select b (x + bias) ⊥) (Finset.sum_congr rfl fun d _ => ?_)
  ac_rfl

/-- A key not in the window does not matter. -/
theorem score_congr {b : BitVec 1} {Q K K' : Fin 64 → EReal} {bias : EReal} (h : b = 1 → K = K') : score b Q K bias = score b Q K' bias := by
  unfold score Scalar.select
  by_cases hb : b = 1
  · rw [h hb]
  · rw [if_neg hb, if_neg hb]

theorem exp_nonneg (x : EReal) : 0 ≤ Ideal.exp x := by
  induction x with
  | bot => exact le_rfl
  | top => exact le_top
  | coe r => exact EReal.coe_nonneg.mpr (Real.exp_pos r).le

theorem div_zero_zero : Ideal.div 0 0 = ⊥ := by simp [Ideal.div]

/-- The sum of infinities and zeros, once more, is itself. -/
theorem bot_mul_sum_add_self {n : ℕ} (v : Fin n → EReal) : (∑ j, ⊥ * v j) + ∑ j, ⊥ * v j = ∑ j, ⊥ * v j := by
  have hs : ∀ s : Finset (Fin n), (∑ j ∈ s, ⊥ * v j) = ⊥ ∨ (∑ j ∈ s, ⊥ * v j) = 0 ∨ (∑ j ∈ s, ⊥ * v j) = ⊤ := by
    classical
    intro s
    induction s using Finset.induction_on with
    | empty => simp
    | insert i s hi ih =>
      rw [Finset.sum_insert hi]
      have hv : ⊥ * v i = ⊥ ∨ ⊥ * v i = 0 ∨ ⊥ * v i = ⊤ := by
        rcases lt_trichotomy (v i) 0 with h | h | h
        · exact Or.inr (Or.inr (EReal.bot_mul_of_neg h))
        · exact Or.inr (Or.inl (by rw [h, mul_zero]))
        · exact Or.inl (EReal.bot_mul_of_pos h)
      rcases hv with h | h | h <;> rcases ih with k | k | k <;> simp [h, k]
  rcases hs Finset.univ with h | h | h <;> rw [h] <;> simp

/-- Before the first block there is nothing: masked keys whose values are the block's own again count as ones whose
    values are zero. -/
theorem att_first {S : Fin 256 → EReal} (s : EReal) {V V' : Fin 256 → EReal} (hS : ∀ j : Fin 256, j.val < 128 → S j = ⊥)
    (hV : ∀ j : Fin 256, j.val < 128 → V j = 0) (hlo : ∀ j : Fin 128, V' ⟨j.val, by omega⟩ = V ⟨128 + j.val, by omega⟩)
    (hhi : ∀ j : Fin 128, V' ⟨128 + j.val, by omega⟩ = V ⟨128 + j.val, by omega⟩) : att S s V' = att S s V := by
  have hw : ∀ j : Fin 256, j.val < 128 → Ideal.exp (S j - top S s) = 0 := fun j h => by rw [hS j h, EReal.bot_sub]; rfl
  unfold att
  rw [Fin.sum_univ_two_halves 128 128 rfl, Fin.sum_univ_two_halves 128 128 rfl]
  have hz : (∑ j : Fin 128, Ideal.div (Ideal.exp (S ⟨j.val, by omega⟩ - top S s)) (den S s) * V ⟨j.val, by omega⟩) = 0 :=
    Finset.sum_eq_zero fun j _ => by rw [hV _ j.isLt, mul_zero]
  have h2 : (∑ j : Fin 128, Ideal.div (Ideal.exp (S ⟨128 + j.val, by omega⟩ - top S s)) (den S s) * V' ⟨128 + j.val, by omega⟩)
      = ∑ j : Fin 128, Ideal.div (Ideal.exp (S ⟨128 + j.val, by omega⟩ - top S s)) (den S s) * V ⟨128 + j.val, by omega⟩ :=
    Finset.sum_congr rfl fun j _ => by rw [hhi]
  rw [hz, h2, zero_add]
  by_cases hd : den S s = 0
  · have hsum : (∑ k, Ideal.exp (S k - top S s)) = 0 :=
      le_antisymm (hd ▸ le_add_of_nonneg_right (exp_nonneg _)) (Finset.sum_nonneg fun k _ => exp_nonneg _)
    have he : ∀ j, Ideal.exp (S j - top S s) = 0 := fun j =>
      (Finset.sum_eq_zero_iff_of_nonneg fun k _ => exp_nonneg _).mp hsum j (Finset.mem_univ j)
    have : (∑ j : Fin 128, Ideal.div (Ideal.exp (S ⟨j.val, by omega⟩ - top S s)) (den S s) * V' ⟨j.val, by omega⟩)
        = ∑ j : Fin 128, ⊥ * V ⟨128 + j.val, by omega⟩ :=
      Finset.sum_congr rfl fun j _ => by rw [he, hd, div_zero_zero, hlo]
    rw [this]
    have h3 : (∑ j : Fin 128, Ideal.div (Ideal.exp (S ⟨128 + j.val, by omega⟩ - top S s)) (den S s) * V ⟨128 + j.val, by omega⟩)
        = ∑ j : Fin 128, ⊥ * V ⟨128 + j.val, by omega⟩ :=
      Finset.sum_congr rfl fun j _ => by rw [he, hd, div_zero_zero]
    rw [h3, bot_mul_sum_add_self]
  · rw [Finset.sum_eq_zero, zero_add]
    intro j _
    rw [hw _ j.isLt, Ideal.div, if_neg hd, zero_mul, zero_mul]

end Cert.Mixer

end
-- ==== Proof.FwdVec.lean ====
/- `mix_fwd`: a block of 128 rows of the kernel as vectors, the heads and groups by number, and what they hold. -/
module

public import proofs.«01_k».proof.Defs
public import proofs.«01_k».proof.Proof.Gen.MixFwdIdeal.Skeleton
public import proofs.«01_k».proof.Proof.FwdForm
public import Idealize.ShloMosaic.Lib.Pointwise

@[expose] public section

set_option maxRecDepth 16384

noncomputable section

open Idealize.ShloMosaic Idealize.ShloMosaic.TcCoe Idealize.SL.Sem

namespace Cert.MixFwdIdeal.Vec

open Cert.MixFwdIdeal Cert.MixFwdIdeal.Gen Cert.Mixer Cert.ActConv Cert.Consts

theorem slices_head (h : Fin 8) : S128x512.Slices ![0, h.val * 64] S128x64 := by revert h; decide
theorem slices_key (g : Fin 2) : S256x128.Slices ![0, g.val * 64] S256x64 := by revert g; decide
theorem slices_val (g : Fin 2) : S128x256.Slices ![0, 128 + g.val * 64] S128x64 := by revert g; decide
theorem slices_own (g : Fin 2) : S128x2304.Slices ![0, 2176 + g.val * 64] S128x64 := by revert g; decide

/-- Eight heads side by side. -/
def heads (H : Fin 8 → FVec Ideal S128x64 .f32) : FVec Ideal S128x512 .f32 :=
  concatenate S128x512 1 [⟨S128x64, H 0⟩, ⟨S128x64, H 1⟩, ⟨S128x64, H 2⟩, ⟨S128x64, H 3⟩, ⟨S128x64, H 4⟩, ⟨S128x64, H 5⟩, ⟨S128x64, H 6⟩, ⟨S128x64, H 7⟩]
    concatenates_S128x64_S128x64_S128x64_S128x64_S128x64_S128x64_S128x64_S128x64_S128x512_d1

theorem heads_apply (H : Fin 8 → FVec Ideal S128x64 .f32) (q : Fin 128) (h : Fin 8) (d : Fin 64) :
    heads H (ix2 q ⟨h.val * 64 + d.val, by omega⟩) = H h (ix2 q d) := by
  pointwise [heads]
  have e : ∀ (k : Fin 8) (n : ℕ) (hn : n < 64), n = d.val → H k (ix2 q ⟨n, hn⟩) = H k (ix2 q d) := fun k n hn h => by subst h; rfl
  obtain ⟨h, hh⟩ := h
  have : h = 0 ∨ h = 1 ∨ h = 2 ∨ h = 3 ∨ h = 4 ∨ h = 5 ∨ h = 6 ∨ h = 7 := by omega
  rcases this with rfl | rfl | rfl | rfl | rfl | rfl | rfl | rfl
  all_goals
    repeat rw [dif_neg (by simp only []; omega)]
    first | (rw [dif_pos (by simp only []; omega)]; exact e _ _ _ (by simp only []; omega)) | exact e _ _ _ (by simp only []; omega)

/-- The queries: normed, by the gain, scaled. -/
def qs (P : FVec Ideal S128x2304 .f32) (g : Vec Ideal S1x512 .f32) : FVec Ideal S128x512 .bf16 :=
  truncf .bf16 (mulf (mulf (mulf (k0_pay14 P) (heads fun h => k0_pay24 (extractStridedSlice S128x64 ![0, h.val * 64] (k0_pay14 P) (slices_head h))))
    (broadcastTo S128x512 g broadcasts_S1x512_S128x512)) (broadcast S128x512 (Scalar.ofBits .f32 0x3E000000#32))) bitsLt_bf16_f32

theorem qs_0 (P : FVec Ideal S128x2304 .f32) (g : Vec Ideal S1x512 .f32) :
    k0_pay28 (F := Ideal) g (k0_pay14 P) (k0_pay19 P) (k0_pay20 P) (k0_pay21 P) (k0_pay23 (k0_pay22 P)) (k0_pay24 (k0_pay15 P))
      (k0_pay25 (k0_pay16 P)) (k0_pay26 (k0_pay17 P)) (k0_pay27 (k0_pay18 P)) = qs P g := rfl

theorem qs_1 (P : FVec Ideal S128x2304 .f32) (g : Vec Ideal S1x512 .f32) :
    k0_pay84 (F := Ideal) g (k0_pay69 P) (k0_pay74 P) (k0_pay75 P) (k0_pay76 P) (k0_pay78 (k0_pay77 P)) (k0_pay79 (k0_pay70 P))
      (k0_pay80 (k0_pay71 P)) (k0_pay81 (k0_pay72 P)) (k0_pay82 (k0_pay73 P)) k0_pay83 = qs P g := rfl

theorem qs_apply (P : FVec Ideal S128x2304 .f32) (g : Vec Ideal S1x512 .f32) (q : Fin 128) (h : Fin 8) (d : Fin 64) :
    qs P g (ix2 q ⟨h.val * 64 + d.val, by omega⟩) = P (ix2 q ⟨1536 + (h.val * 64 + d.val), by omega⟩)
      * rms 0x42800000#32 (fun e : Fin 64 => P (ix2 q ⟨1536 + (h.val * 64 + e.val), by omega⟩))
      * g (ix2 0 ⟨h.val * 64 + d.val, by omega⟩) * ((1 / 8 : ℝ) : EReal) := by
  unfold rms
  pointwise [qs, k0_pay14, ofBits_eighth, heads_apply, k0_pay24]

/-- The keys: normed, by the gain. -/
def kn (P : FVec Ideal S128x2304 .f32) (p : FVec Ideal S128x256 .f32) (g : Vec Ideal S1x128 .f32) : FVec Ideal S256x128 .bf16 :=
  k0_pay33 g (k0_pay29 P p) (k0_pay30 P p) (k0_pay31 P p) k0_pay32

theorem kn_1 (P : FVec Ideal S128x2304 .f32) (p : FVec Ideal S128x256 .f32) (g : Vec Ideal S1x128 .f32) :
    k0_pay88 (F := Ideal) g (k0_pay85 P p) (k0_pay86 P p) (k0_pay87 P p) = kn P p g := rfl

theorem kn_apply (P : FVec Ideal S128x2304 .f32) (p : FVec Ideal S128x256 .f32) (gk : Vec Ideal S1x128 .f32) (j : Fin 256) (g : Fin 2) (d : Fin 64) :
    kn P p gk (ix2 j ⟨g.val * 64 + d.val, by omega⟩) = k0_pay29 P p (ix2 j ⟨g.val * 64 + d.val, by omega⟩)
      * rms 0x42800000#32 (fun e : Fin 64 => k0_pay29 P p (ix2 j ⟨g.val * 64 + e.val, by omega⟩))
      * gk (ix2 0 ⟨g.val * 64 + d.val, by omega⟩) := by
  unfold rms
  pointwise [kn, k0_pay33, k0_pay30, k0_pay31, k0_pay32]
  fin_cases g <;> simp

theorem band_apply (P : FVec Ideal S128x2304 .f32) (p : FVec Ideal S128x256 .f32) (j : Fin 256) (c : Fin 128) :
    k0_pay29 P p (ix2 j c) = if h : j.val < 128 then p (ix2 ⟨j.val, h⟩ ⟨c.val, by omega⟩)
      else P (ix2 ⟨j.val - 128, by omega⟩ ⟨2048 + c.val, by omega⟩) := by
  pointwise [k0_pay29]

/-- The values. -/
def vs (P : FVec Ideal S128x2304 .f32) (p : FVec Ideal S128x256 .f32) (g : Fin 2) : FVec Ideal S256x64 .bf16 :=
  truncf .bf16 (concatenate S256x64 0 [⟨S128x64, extractStridedSlice S128x64 ![0, 128 + g.val * 64] p (slices_val g)⟩,
    ⟨S128x64, extractStridedSlice S128x64 ![0, 2176 + g.val * 64] P (slices_own g)⟩] concatenates_S128x64_S128x64_S256x64_d0) bitsLt_bf16_f32

theorem vs_apply (P : FVec Ideal S128x2304 .f32) (p : FVec Ideal S128x256 .f32) (g : Fin 2) (j : Fin 256) (d : Fin 64) :
    vs P p g (ix2 j d) = if h : j.val < 128 then p (ix2 ⟨j.val, h⟩ ⟨128 + (g.val * 64 + d.val), by omega⟩)
      else P (ix2 ⟨j.val - 128, by omega⟩ ⟨2176 + (g.val * 64 + d.val), by omega⟩) := by
  pointwise [vs]
  simp only [Nat.add_assoc]

/-- A head's masked scores. -/
def scores (Q : FVec Ideal S128x512 .bf16) (K : FVec Ideal S256x128 .bf16) (B : Vec Ideal S128x256 .f32) (M : IVec S128x256 1) (h : Fin 8) :
    FVec Ideal S128x256 .f32 :=
  select M (addf (matmul dot_S128x64_S256x64_S128x256_1_1_0_0_n_n none (extractStridedSlice S128x64 ![0, h.val * 64] Q (slices_head h))
      (extractStridedSlice S256x64 ![0, h.val / 4 * 64] K (slices_key ⟨h.val / 4, by omega⟩)) (constant S128x256 .f32 0x00000000#32))
    (shapeCast S128x256 B shapeCasts_S128x256_S128x256)) (broadcast S128x256 (Named.named κ "mask" 0xF149F2CA#32))

theorem scores_apply (Q : FVec Ideal S128x512 .bf16) (K : FVec Ideal S256x128 .bf16) (B : Vec Ideal S128x256 .f32) (M : IVec S128x256 1) (h : Fin 8)
    (q : Fin 128) (j : Fin 256) : scores Q K B M h (ix2 q j) = Scalar.select (M (ix2 q j))
      ((∑ d : Fin 64, Q (ix2 q ⟨h.val * 64 + d.val, by omega⟩) * K (ix2 j ⟨h.val / 4 * 64 + d.val, by omega⟩)) + B (ix2 q j)) ⊥ := by
  pointwise [scores]
  rfl

/-- A head. -/
theorem head_apply (V : FVec Ideal S256x64 .bf16) (S : FVec Ideal S128x256 .f32) (s : EReal) (q : Fin 128) (d : Fin 64) :
    k0_pay43 (F := Ideal) V S s (ix2 q d) = att (fun j => S (ix2 q j)) s (fun j => V (ix2 j d)) := by
  unfold att den top
  pointwise [k0_pay43, ofBits_bot]

/-- The attention of a block. -/
def attn (P : FVec Ideal S128x2304 .f32) (p : FVec Ideal S128x256 .f32) (M : IVec S128x256 1) (Q : FVec Ideal S128x512 .bf16) (K : FVec Ideal S256x128 .bf16)
    (B : Fin 8 → Vec Ideal S128x256 .f32) (s : Fin 8 → EReal) : FVec Ideal S128x512 .f32 :=
  heads fun h => k0_pay43 (vs P p ⟨h.val / 4, by omega⟩) (scores Q K (B h) M h) (s h)

/-- The rows before, by one, the block's first taken from the rows above it. -/
def behind (Z : FVec Ideal S128x512 .f32) (c7 : FVec Ideal S1x512 .f32) : FVec Ideal S128x512 .f32 :=
  select (broadcastTo S128x512 (shapeCast S128x1 (cmpi .eq (iota .tc S128x1 32 [0] iota_S128x1_d0_w32) (broadcast S128x1 0#32)) shapeCasts_S128x1_S128x1)
      broadcasts_S128x1_S128x512)
    (broadcastTo S128x512 (shapeCast S1x512 c7 shapeCasts_S1x512_S1x512) broadcasts_S1x512_S128x512) (dynamicRotate 0 1#32 none Z rotates_S128x512_d0)

/-- The gate and the convolution's input of a block. -/
def gate (P : FVec Ideal S128x2304 .f32) : FVec Ideal S128x512 .f32 := extractStridedSlice S128x512 ![0, 0] P slices_S128x2304_o0_0_S128x512
def zed (P : FVec Ideal S128x2304 .f32) : FVec Ideal S128x512 .f32 :=
  mulf (extractStridedSlice S128x512 ![0, 512] P slices_S128x2304_o0_512_S128x512) (extractStridedSlice S128x512 ![0, 1024] P slices_S128x2304_o0_1024_S128x512)

/-- The gated convolution of a block, the two rows above it given. -/
def conv (P : FVec Ideal S128x2304 .f32) (c7 c6 : FVec Ideal S1x512 .f32) (w : FVec Ideal S8x512 .f32) : FVec Ideal S128x512 .f32 :=
  k0_pay12 w (gate P) (zed P) c7 c6 (iota .tc S128x1 32 [0] iota_S128x1_d0_w32) (behind (zed P) c7) 0#32

theorem is_0 (q : Fin 128) : IntOp.cmpi .eq (BitVec.ofNat 32 q.val) 0#32 = if q.val = 0 then 1 else 0 := by revert q; decide +kernel
theorem is_1 (q : Fin 128) : IntOp.cmpi .eq (BitVec.ofNat 32 q.val) 1#32 = if q.val = 1 then 1 else 0 := by revert q; decide +kernel

theorem conv_apply {P : FVec Ideal S128x2304 .f32} {c7 c6 : FVec Ideal S1x512 .f32} {w : FVec Ideal S8x512 .f32} {z : Fin 2048 → EReal} {b : ℕ}
    (hb : b + 128 ≤ 2048) {c : Fin 512} (hZ : ∀ q : Fin 128, zed P (ix2 q c) = z ⟨b + q.val, by omega⟩) (h7 : c7 (ix2 0 c) = lag z (b + 1))
    (h6 : c6 (ix2 0 c) = lag z b) (q : Fin 128) : conv P c7 c6 w (ix2 q c) = P (ix2 q ⟨c.val, by omega⟩)
      * (w (ix2 0 c) * lag z (b + q.val) + w (ix2 1 c) * lag z (b + q.val + 1) + w (ix2 2 c) * lag z (b + q.val + 2)) := by
  pointwise [conv, k0_pay12, behind, gate, is_0, is_1, hZ, h7, h6]
  have e : ∀ k (h : k < 2048), z ⟨k, h⟩ = lag z (k + 2) := fun k h => by
    unfold lag
    rw [if_neg (by omega), show k + 2 - 2 = k by omega, show at0 z k = _ from at0_val z ⟨k, h⟩]
  simp only [e]
  by_cases h0 : q.val = 0
  · simp [h0, Scalar.select]
  · by_cases h1 : q.val = 1
    · simp [h1, Scalar.select, Nat.add_assoc]
    · rw [if_neg h0, if_neg h1, show (q.val + 128 - 2) % 128 = q.val - 2 by omega, show (q.val + 128 - 1) % 128 = q.val - 1 by omega,
        show b + (q.val - 2) + 2 = b + q.val by omega, show b + (q.val - 1) + 2 = b + q.val + 1 by omega]
      rfl

/-- The mask of a block. -/
theorem mask_apply (v : BitVec 1) (q : Fin 128) (j : Fin 256) : k0_pay13 v (ix2 q j)
    = IntOp.andi (within q j) (IntOp.cmpi .sge (BitVec.ofNat 32 j.val) (Scalar.select v 128#32 0#32)) := by
  unfold within
  pointwise [k0_pay13]

theorem own_first (j : Fin 256) : IntOp.cmpi .sge (BitVec.ofNat 32 j.val) (Scalar.select 1#1 128#32 0#32) = inside 0 j := by
  revert j; decide +kernel

theorem own_later (n : Fin 16) (h : n.val ≠ 0) (j : Fin 256) :
    IntOp.cmpi .sge (BitVec.ofNat 32 j.val) (Scalar.select 0#1 128#32 0#32) = inside n j := by
  have : ∀ n : Fin 16, n.val ≠ 0 → ∀ j : Fin 256, IntOp.cmpi .sge (BitVec.ofNat 32 j.val) (Scalar.select 0#1 128#32 0#32) = inside n j := by
    decide +kernel
  exact this n h j

theorem inside_le (n : Fin 16) (j : Fin 256) (h : inside n j = 1) : 128 ≤ 128 * n.val + j.val := by
  have : ∀ (n : Fin 16) (j : Fin 256), inside n j = 1 → 128 ≤ 128 * n.val + j.val := by decide +kernel
  exact this n j h

theorem inside_first (j : Fin 256) (h : j.val < 128) : inside 0 j = 0 := by
  have : ∀ j : Fin 256, j.val < 128 → inside 0 j = 0 := by decide +kernel
  exact this j h

theorem andi_right (a b : BitVec 1) (h : IntOp.andi a b = 1) : b = 1 := by
  revert a b; decide

theorem andi_zero (a : BitVec 1) : IntOp.andi a 0 = 0 := by revert a; decide

/-- The two halves normed, side by side. -/
def normed (gc ga : Vec Ideal S1x512 .f32) (C A : FVec Ideal S128x512 .f32) : FVec Ideal S128x1024 .bf16 :=
  k0_pay57 gc ga C A (k0_pay55 C) (k0_pay55 A)

theorem normed_apply (gc ga : Vec Ideal S1x512 .f32) (C A : FVec Ideal S128x512 .f32) (q : Fin 128) (c : Fin 1024) :
    normed gc ga C A (ix2 q c) = if h : c.val < 512 then C (ix2 q ⟨c.val, h⟩) * rms 0x44000000#32 (fun k : Fin 512 => C (ix2 q k)) * gc (ix2 0 ⟨c.val, h⟩)
      else A (ix2 q ⟨c.val - 512, by omega⟩) * rms 0x44000000#32 (fun k : Fin 512 => A (ix2 q k)) * ga (ix2 0 ⟨c.val - 512, by omega⟩) := by
  unfold rms
  pointwise [normed, k0_pay57, k0_pay55]

/-- A block. -/
def block (P : FVec Ideal S128x2304 .f32) (p : FVec Ideal S128x256 .f32) (M : IVec S128x256 1) (c7 c6 : FVec Ideal S1x512 .f32) (w : FVec Ideal S8x512 .f32)
    (gq : Vec Ideal S1x512 .f32) (gk : Vec Ideal S1x128 .f32) (gc ga : Vec Ideal S1x512 .f32) (B : Fin 8 → Vec Ideal S128x256 .f32) (s : Fin 8 → EReal) :
    FVec Ideal S128x1024 .bf16 :=
  normed gc ga (conv P c7 c6 w) (attn P p M (qs P gq) (kn P p gk) B s)

end Cert.MixFwdIdeal.Vec

end
-- ==== Proof.FwdBlock.lean ====
/- `mix_fwd`: the body's two blocks, as printed, are the block of `FwdVec`. -/
module

public import proofs.«01_k».proof.Defs
public import proofs.«01_k».proof.Proof.FwdVec

@[expose] public section

set_option maxRecDepth 16384

noncomputable section

open Idealize.ShloMosaic Idealize.ShloMosaic.TcCoe

namespace Cert.MixFwdIdeal.Vec

open Cert.MixFwdIdeal Cert.MixFwdIdeal.Gen

/-- One head's rows. -/
def head (P : FVec Ideal S128x2304 .f32) (p : FVec Ideal S128x256 .f32) (M : IVec S128x256 1) (Q : FVec Ideal S128x512 .bf16) (K : FVec Ideal S256x128 .bf16)
    (B : Vec Ideal S128x256 .f32) (s : EReal) (h : Fin 8) : FVec Ideal S128x64 .f32 :=
  k0_pay43 (vs P p ⟨h.val / 4, by omega⟩) (scores Q K B M h) s

variable (P : FVec Ideal S128x2304 .f32) (p : FVec Ideal S128x256 .f32) (M : IVec S128x256 1) (Q : FVec Ideal S128x512 .bf16) (K : FVec Ideal S256x128 .bf16)
variable (gk : Vec Ideal S1x128 .f32) (B : Vec Ideal S128x256 .f32) (s : EReal)
variable (H0 H1 H2 H3 H4 H5 H6 : FVec Ideal S128x64 .f32) (gc ga : Vec Ideal S1x512 .f32) (C : FVec Ideal S128x512 .f32)

theorem kn_0 : k0_pay33 (F := Ideal) gk (k0_pay29 P p) (k0_pay30 P p) (k0_pay31 P p) k0_pay32 = kn P p gk := rfl

/-! ## The first block's heads -/

theorem first_0 : k0_pay39 (k0_pay34 P p) (k0_pay37 gk M Q (k0_pay29 P p) (k0_pay30 P p) (k0_pay31 P p) k0_pay32 B s)
    (k0_pay38 gk M Q (k0_pay29 P p) (k0_pay30 P p) (k0_pay31 P p) k0_pay32 B s) = head P p M Q (kn P p gk) B s 0 := rfl
theorem first_1 : k0_pay40 P p M Q K B s = head P p M Q K B s 1 := rfl
theorem first_2 : k0_pay43 (k0_pay41 P p) (k0_pay42 M Q K B) s = head P p M Q K B s 2 := rfl
theorem first_3 : k0_pay46 (k0_pay44 P p) (k0_pay45 M Q K B s) (constant S128x64 .f32 0x00000000#32) = head P p M Q K B s 3 := rfl
theorem first_4 : k0_pay47 P p M Q K B s = head P p M Q K B s 4 := rfl
theorem first_5 : k0_pay50 (k0_pay48 P p) (k0_pay49 M Q K B) s = head P p M Q K B s 5 := rfl
theorem first_6 : k0_pay51 P p M Q K B s = head P p M Q K B s 6 := rfl
theorem first_all : k0_pay54 P M Q H0 H1 H2 H3 H4 H5 H6 (k0_pay52 K) (k0_pay53 p) B s
    = heads ![H0, H1, H2, H3, H4, H5, H6, head P p M Q K B s 7] := rfl
theorem first_norm : k0_pay57 gc ga C (k0_pay54 P M Q H0 H1 H2 H3 H4 H5 H6 (k0_pay52 K) (k0_pay53 p) B s) (k0_pay55 C)
      (k0_pay56 P M Q H0 H1 H2 H3 H4 H5 H6 (k0_pay52 K) (k0_pay53 p) B s)
    = normed gc ga C (heads ![H0, H1, H2, H3, H4, H5, H6, head P p M Q K B s 7]) := rfl

/-! ## The second block's -/

theorem second_0 : k0_pay95 (k0_pay89 P p) (k0_pay92 gk M Q (k0_pay85 P p) (k0_pay86 P p) (k0_pay87 P p) B s)
    (k0_pay93 gk M Q (k0_pay85 P p) (k0_pay86 P p) (k0_pay87 P p) B s) (k0_pay94 gk M Q (k0_pay85 P p) (k0_pay86 P p) (k0_pay87 P p) B s)
    = head P p M Q (kn P p gk) B s 0 := rfl
theorem second_1 : k0_pay96 P p M Q K B s = head P p M Q K B s 1 := rfl
theorem second_2 : k0_pay100 M (k0_pay97 P p) (k0_pay98 Q K B) k0_pay99 s = head P p M Q K B s 2 := rfl
theorem second_3 : k0_pay103 (k0_pay101 P p) (k0_pay102 M Q K B s) = head P p M Q K B s 3 := rfl
theorem second_4 : k0_pay104 P p M Q K B s = head P p M Q K B s 4 := rfl
theorem second_5 : k0_pay107 (k0_pay105 P p) (k0_pay106 M Q K B) s = head P p M Q K B s 5 := rfl
theorem second_6 : k0_pay108 P p M Q K B s = head P p M Q K B s 6 := rfl
theorem second_norm : k0_pay1 gc ga C (k0_pay109 P p M Q K H0 H1 H2 H3 H4 H5 H6 B s) (k0_pay110 C)
      (k0_pay111 P p M Q K H0 H1 H2 H3 H4 H5 H6 B s) k0_pay112
    = normed gc ga C (heads ![H0, H1, H2, H3, H4, H5, H6, head P p M Q K B s 7]) := rfl

/-! ## The convolution, and the heads together -/

theorem first_conv (i : grid0.Coords) (v0 : Vec Ideal S256x2304 .f32) (v4 v6 : Vec Ideal S8x512 .f32) (w : FVec Ideal S8x512 .f32) :
    k0_pay12 w (k0_pay6 v0) (k0_pay7 v0) (k0_pay9 i v4 v6) (k0_pay10 i v4 v6) (iota .tc S128x1 32 [0] iota_S128x1_d0_w32) (k0_pay11 i v0 v4 v6) 0#32
    = conv (k0_pay3 v0) (k0_pay9 i v4 v6) (k0_pay10 i v4 v6) w := rfl

theorem second_conv (v1 : FVec Ideal S256x2304 .f32) (w : FVec Ideal S8x512 .f32) :
    k0_pay67 w (k0_pay61 v1) (k0_pay62 v1) (k0_pay64 v1) (k0_pay65 v1) (iota .tc S128x1 32 [0] iota_S128x1_d0_w32) (k0_pay66 v1)
    = conv (k0_pay58 v1) (k0_pay64 v1) (k0_pay65 v1) w := rfl

theorem heads_all (B : Fin 8 → Vec Ideal S128x256 .f32) (s : Fin 8 → EReal) :
    heads ![head P p M Q K (B 0) (s 0) 0, head P p M Q K (B 1) (s 1) 1, head P p M Q K (B 2) (s 2) 2, head P p M Q K (B 3) (s 3) 3,
      head P p M Q K (B 4) (s 4) 4, head P p M Q K (B 5) (s 5) 5, head P p M Q K (B 6) (s 6) 6, head P p M Q K (B 7) (s 7) 7]
    = attn P p M Q K B s := by
  unfold attn
  refine congrArg heads (funext fun h => ?_)
  fin_cases h <;> rfl

end Cert.MixFwdIdeal.Vec

end
-- ==== Proof.FwdMax.lean ====
/- The greatest entry along the last of five axes. -/
module

public import Idealize.ShloMosaic.Lib.Pointwise

@[expose] public section

noncomputable section

namespace Cert.FwdMax

open Idealize.ShloMosaic

theorem max_last {n0 n1 n2 n3 n4 : ℕ} {u : Shape} (A : FVec Ideal ⟨5, ![n0, n1, n2, n3, n4]⟩ .f32) (b : FVec Ideal u .f32)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf A b h hu (ix4 i0 i1 i2 i3)
      = Finset.univ.fold max (b (Shape.Idx.first hu)) fun k : Fin n4 => A (ix5 i0 i1 i2 i3 k) := by
  rw [Host.reduce_eq_fold, Shape.ReducesTo.fold_fiber_r5_a4]
  rfl

end Cert.FwdMax

end
-- ==== Proof.FwdRefClosed.lean ====
/- `mix_fwd`: its reference in closed form. -/
module

public import proofs.«01_k».proof.Defs
public import proofs.«01_k».proof.Proof.Gen.MixFwdRefIdeal.Read
public import proofs.«01_k».proof.Proof.FwdForm
public import proofs.«01_k».proof.Proof.FwdMax
public import Idealize.ShloMosaic.Lib.Pointwise

@[expose] public section

set_option maxRecDepth 16384

noncomputable section

open Idealize.ShloMosaic Idealize.ShloMosaic.TcCoe Idealize.SL.Sem

namespace Cert.MixFwdRefIdeal.Closed

open Cert.MixFwdRefIdeal Cert.MixFwdRefIdeal.Gen Cert.MixFwdRefIdeal.Read Cert.Mixer Cert.ActConv

variable (x : FVec Ideal S1x2048x2304 .f32) (cw : FVec Ideal S1x3x512 .f32) (gq gk : FVec Ideal S1x64 .f32)
  (tab : FVec Ideal S32x8 .f32) (sk : FVec Ideal S1x8 .f32) (gc ga : FVec Ideal S1x512 .f32)

/-- The convolution's input, and its gated result. -/
def z (c : Fin 512) (R : Fin 2048) : EReal := x (ix3 0 R ⟨512 + c.val, by omega⟩) * x (ix3 0 R ⟨1024 + c.val, by omega⟩)

def yc (R : Fin 2048) (c : Fin 512) : EReal :=
  x (ix3 0 R ⟨c.val, by omega⟩) * (lag (z x c) R.val * cw (ix3 0 0 c) + lag (z x c) (R.val + 1) * cw (ix3 0 1 c)
    + lag (z x c) (R.val + 2) * cw (ix3 0 2 c))

/-- The normed queries and keys, and the values. -/
def qh (R : Fin 2048) (h : Fin 8) (d : Fin 64) : EReal :=
  x (ix3 0 R ⟨1536 + (h.val * 64 + d.val), by omega⟩)
    * rms 0x42800000#32 (fun e : Fin 64 => x (ix3 0 R ⟨1536 + (h.val * 64 + e.val), by omega⟩)) * gq (ix2 0 d)

def kh (g : Fin 2) (d : Fin 64) (R : Fin 2048) : EReal :=
  x (ix3 0 R ⟨2048 + (g.val * 64 + d.val), by omega⟩)
    * rms 0x42800000#32 (fun e : Fin 64 => x (ix3 0 R ⟨2048 + (g.val * 64 + e.val), by omega⟩)) * gk (ix2 0 d)

def vh (g : Fin 2) (d : Fin 64) (R : Fin 2048) : EReal := x (ix3 0 R ⟨2176 + (g.val * 64 + d.val), by omega⟩)

/-- Row `q` of block `n`; the group of a head. -/
abbrev row (n : Fin 16) (q : Fin 128) : Fin 2048 := ⟨n.val * 128 + q.val, by omega⟩
abbrev grp (h : Fin 8) : Fin 2 := ⟨h.val / 4, by omega⟩
abbrev sub (h : Fin 8) : Fin 4 := ⟨h.val % 4, by omega⟩

/-- The scores of one query. -/
def sc (n : Fin 16) (q : Fin 128) (h : Fin 8) (j : Fin 256) : EReal :=
  score (IntOp.andi (within q j) (inside n j)) (qh x gq (row n q) h) (fun d => band (kh x gk (grp h) d) n j)
    (val_main_v36 (F := Ideal) tab (ix3 h q j))

/-- The attention's result. -/
def ya (n : Fin 16) (q : Fin 128) (h : Fin 8) (d : Fin 64) : EReal :=
  att (sc x gq gk tab n q h) (sk (ix2 0 h)) (band (vh x (grp h) d) n)

theorem ref_z (c : Fin 512) (n : Fin 2050) : val_main_v50 (F := Ideal) x (ix3 0 n c) = lag (z x c) n.val := by
  unfold lag at0 z
  pointwise [val_main_v50, val_main_v49, val_main_v47, val_main_v39, val_main_v40, val_main_cst_9]
  by_cases hn : n.val < 2
  · rw [dif_pos hn, if_pos hn]
  · rw [dif_neg hn, if_neg hn, dif_pos (by omega)]

theorem ref_yc (R : Fin 2048) (c : Fin 512) : val_main_v165 (F := Ideal) x cw (ix2 R c) = yc x cw R c := by
  unfold yc
  have h := fun n : Fin 2050 => (ref_z x c n).symm
  rw [show lag (z x c) R.val = _ from h ⟨R.val, by omega⟩, show lag (z x c) (R.val + 1) = _ from h ⟨R.val + 1, by omega⟩,
    show lag (z x c) (R.val + 2) = _ from h ⟨R.val + 2, by omega⟩]
  pointwise [val_main_v165, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v48, val_main_v38]
  simp only [Nat.add_comm 1, Nat.add_comm 2]

theorem ref_q (R : Fin 2048) (h : Fin 8) (d : Fin 64) : val_main_v86 (F := Ideal) x gq (ix3 R h d) = qh x gq R h d := by
  unfold qh rms
  pointwise [val_main_v86, val_main_v85, val_main_v84, val_main_v83, val_main_v82, val_main_v81, val_main_v80, val_main_v79, val_main_v78, val_main_v77, val_main_v76, val_main_v75, val_main_v74, val_main_v73, val_main_v72, val_main_v42, val_main_v41, val_main_cst_10, val_main_cst_11, val_main_cst_12]

theorem ref_k (R : Fin 2048) (g : Fin 2) (d : Fin 64) : val_main_v101 (F := Ideal) x gk (ix3 R g d) = kh x gk g d R := by
  unfold kh rms
  pointwise [val_main_v101, val_main_v100, val_main_v99, val_main_v98, val_main_v97, val_main_v96, val_main_v95, val_main_v94, val_main_v93, val_main_v92, val_main_v91, val_main_v90, val_main_v89, val_main_v88, val_main_v87, val_main_v44, val_main_v43, val_main_cst_13, val_main_cst_14, val_main_cst_15]

theorem ref_v (R : Fin 2048) (g : Fin 2) (d : Fin 64) : val_main_v102 (F := Ideal) x (ix3 R g d) = vh x g d R := by
  unfold vh
  pointwise [val_main_v102, val_main_v46, val_main_v45]

/-- A band joined of the previous block's rows, zeros before the first, and the block's own. -/
theorem band_of (f : Fin 2048 → EReal) (n : Fin 16) (j : Fin 256) :
    (if h : j.val < 128 then if h' : n.val < 1 then 0 else f ⟨(n.val - 1) * 128 + j.val, by omega⟩
      else f ⟨n.val * 128 + (j.val - 128), by omega⟩) = band f n j := by
  unfold band
  by_cases hj : j.val < 128
  · by_cases hn : n.val < 1
    · rw [dif_pos hj, dif_pos hn, dif_neg (by omega)]
    · rw [dif_pos hj, dif_neg hn, dif_pos (by omega)]
      exact congrArg f (Fin.ext (by show (n.val - 1) * 128 + j.val = 128 * n.val + j.val - 128; omega))
  · rw [dif_neg hj, dif_pos (by omega)]
    exact congrArg f (Fin.ext (by show n.val * 128 + (j.val - 128) = 128 * n.val + j.val - 128; omega))

theorem ref_kband (n : Fin 16) (j : Fin 256) (g : Fin 2) (d : Fin 64) :
    val_main_v109 (F := Ideal) x gk (ix4 n j g d) = band (kh x gk g d) n j := by
  rw [← band_of]
  simp only [← ref_k]
  pointwise [val_main_v109, val_main_v108, val_main_v107, val_main_v106, val_main_v105, val_main_cst_16]

theorem ref_vband (n : Fin 16) (j : Fin 256) (g : Fin 2) (d : Fin 64) :
    val_main_v114 (F := Ideal) x (ix4 n j g d) = band (vh x g d) n j := by
  rw [← band_of]
  simp only [← ref_v]
  pointwise [val_main_v114, val_main_v113, val_main_v112, val_main_v111, val_main_v110, val_main_cst_17]

theorem ref_mask (n : Fin 16) (g : Fin 2) (u : Fin 4) (q : Fin 128) (j : Fin 256) :
    val_main_call1_v1 (F := Ideal) (ix5 n g u q j) = IntOp.andi (within q j) (inside n j) := by
  unfold within inside
  pointwise [val_main_call1_v1, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v8, val_main_v7, val_main_v6, val_main_v5, val_main_v4, val_main_v3, val_main_v2, val_main_v1, val_main_v0, val_main_c, val_main_c_19, val_main_c_20, val_main_c_21, val_main_c_22, val_main_c_23]

theorem grp_mk (g : Fin 2) (u : Fin 4) : grp ⟨g.val * 4 + u.val, by omega⟩ = g := Fin.ext (by show (g.val * 4 + u.val) / 4 = g.val; omega)

theorem ref_sc (n : Fin 16) (g : Fin 2) (u : Fin 4) (q : Fin 128) (j : Fin 256) :
    val_main_v145 (F := Ideal) x gq gk tab (ix5 n g u q j) = sc x gq gk tab n q ⟨g.val * 4 + u.val, by omega⟩ j := by
  unfold sc score
  rw [grp_mk]
  simp only [← ref_mask n g u, ← ref_kband, ← ref_q]
  pointwise [val_main_v145, val_main_call1_v2, val_main_call1_v0, val_main_cst_24, val_main_v121, val_main_v120, val_main_v119, val_main_v118, val_main_v117, val_main_v116, val_main_v115, val_main_cst_18, val_main_v104, val_main_v37, ofBits_eighth, ofBits_bot]
  refine congrArg (fun e => Scalar.select _ (e * _ + _) _) (Finset.sum_congr rfl fun d _ => mul_comm _ _)

/-- The greatest entry of a row, or the sink's. -/
theorem top_of (A : FVec Ideal S16x2x4x128x256 .f32) (s : FVec Ideal S1x8 .f32) (n : Fin 16) (g : Fin 2) (u : Fin 4) (q : Fin 128) :
    maximumf (broadcastInDim S16x2x4x128x1 ![0, 1, 2, 3] bcast_S16x2x4x128_S16x2x4x128x1_0_1_2_3
      (Host.reduce FloatOps.maximumf A (val_main_cst_25 (F := Ideal)) reducesTo_S16x2x4x128x256_S16x2x4x128_d4 h_S_))
      (val_main_v149 (F := Ideal) s) (ix5 n g u q 0)
      = top (fun j => A (ix5 n g u q j)) (s (ix2 0 ⟨g.val * 4 + u.val, by omega⟩)) := by
  have e : ∀ A' : FVec Ideal S16x2x4x128 .f32, maximumf (broadcastInDim S16x2x4x128x1 ![0, 1, 2, 3] bcast_S16x2x4x128_S16x2x4x128x1_0_1_2_3 A')
      (val_main_v149 (F := Ideal) s) (ix5 n g u q 0) = max (A' (ix4 n g u q)) (s (ix2 0 ⟨g.val * 4 + u.val, by omega⟩)) := fun A' => by
    pointwise [val_main_v149, val_main_v146, val_main_v103]
  rw [e, FwdMax.max_last]
  unfold top
  rw [show val_main_cst_25 (F := Ideal) (Shape.Idx.first h_S_) = ⊥ from ofBits_bot]

theorem ref_top (n : Fin 16) (g : Fin 2) (u : Fin 4) (q : Fin 128) :
    val_main_v150 (F := Ideal) x gq gk tab sk (ix5 n g u q 0)
      = top (sc x gq gk tab n q ⟨g.val * 4 + u.val, by omega⟩) (sk (ix2 0 ⟨g.val * 4 + u.val, by omega⟩)) := by
  rw [show sc x gq gk tab n q ⟨g.val * 4 + u.val, by omega⟩ = fun j => val_main_v145 (F := Ideal) x gq gk tab (ix5 n g u q j) from
    funext fun j => (ref_sc x gq gk tab n g u q j).symm]
  exact top_of (val_main_v145 (F := Ideal) x gq gk tab) sk n g u q

theorem ref_den (n : Fin 16) (g : Fin 2) (u : Fin 4) (q : Fin 128) :
    val_main_v159 (F := Ideal) x gq gk tab sk (ix5 n g u q 0)
      = den (sc x gq gk tab n q ⟨g.val * 4 + u.val, by omega⟩) (sk (ix2 0 ⟨g.val * 4 + u.val, by omega⟩)) := by
  unfold den
  simp only [← ref_top, ← ref_sc]
  pointwise [val_main_v159, val_main_v158, val_main_v157, val_main_v156, val_main_v155, val_main_v154, val_main_v153, val_main_v152, val_main_v151, val_main_cst_26, val_main_v146, val_main_v103]

theorem ref_ya (n : Fin 16) (g : Fin 2) (u : Fin 4) (q : Fin 128) (d : Fin 64) :
    val_main_v163 (F := Ideal) x gq gk tab sk (ix5 n q g u d) = ya x gq gk tab sk n q ⟨g.val * 4 + u.val, by omega⟩ d := by
  unfold ya att
  rw [grp_mk]
  simp only [← ref_den, ← ref_top, ← ref_sc, ← ref_vband]
  pointwise [val_main_v163, val_main_v162, val_main_v161, val_main_v160, val_main_v153, val_main_v152, val_main_v151]
  exact Finset.sum_congr rfl fun j _ => mul_comm _ _

/-- The attention's result, heads joined. -/
def yf (R : Fin 2048) (c : Fin 512) : EReal :=
  ya x gq gk tab sk ⟨R.val / 128, by omega⟩ ⟨R.val % 128, by omega⟩ ⟨c.val / 64, by omega⟩ ⟨c.val % 64, by omega⟩

theorem ref_yf (R : Fin 2048) (c : Fin 512) : val_main_v164 (F := Ideal) x gq gk tab sk (ix2 R c) = yf x gq gk tab sk R c := by
  unfold yf
  pointwise [val_main_v164]
  rw [ref_ya]
  exact congrArg (fun h => ya x gq gk tab sk _ _ h _) (Fin.ext (by show c.val / 256 * 4 + c.val / 64 % 4 = c.val / 64; omega))

/-- The two normed halves. -/
def out (R : Fin 2048) (c : Fin 1024) : EReal :=
  if h : c.val < 512 then yc x cw R ⟨c.val, h⟩ * rms 0x44000000#32 (yc x cw R) * gc (ix2 0 ⟨c.val, h⟩)
  else yf x gq gk tab sk R ⟨c.val - 512, by omega⟩ * rms 0x44000000#32 (yf x gq gk tab sk R) * ga (ix2 0 ⟨c.val - 512, by omega⟩)

theorem ref_out (R : Fin 2048) (c : Fin 1024) :
    val_main_v195 (F := Ideal) x cw gq gk tab sk gc ga (ix2 R c) = out x cw gq gk tab sk gc ga R c := by
  unfold out rms
  simp only [← ref_yf, ← ref_yc]
  pointwise [val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_cst_27, val_main_cst_28, val_main_cst_29, val_main_cst_30, val_main_cst_31, val_main_cst_32]

end Cert.MixFwdRefIdeal.Closed

end
-- ==== Proof.FwdPoint.lean ====
/- `mix_fwd`: a block of 128 rows of the kernel holds the reference's rows. -/
module

public import proofs.«01_k».proof.Proof.FwdVec
public import proofs.«01_k».proof.Proof.FwdRefClosed

@[expose] public section

set_option maxRecDepth 16384

noncomputable section

open Idealize.ShloMosaic Idealize.ShloMosaic.TcCoe Idealize.SL.Sem

namespace Cert.MixFwdIdeal.Vec

open Cert.MixFwdIdeal Cert.MixFwdIdeal.Gen Cert.MixFwdRefIdeal.Closed Cert.MixFwdRefIdeal.Read Cert.Mixer Cert.ActConv

theorem lag_two (u : Fin 2048 → EReal) (r : Fin 2048) : lag u (r.val + 2) = u r := by
  unfold lag
  rw [if_neg (by omega), show r.val + 2 - 2 = r.val by omega, at0_val]

/-- A row of the block before, and a column of the keys and the values. -/
def prior (n : Fin 16) (q : Fin 128) : Fin 2048 := ⟨(n.val - 1) * 128 + q.val, by omega⟩
def keyed (c : Fin 256) : Fin 2304 := ⟨2048 + c.val, by omega⟩

variable {x : FVec Ideal S1x2048x2304 .f32} {cw : FVec Ideal S1x3x512 .f32} {gq gk : FVec Ideal S1x64 .f32}
  {tab : FVec Ideal S32x8 .f32} {sk : FVec Ideal S1x8 .f32} {gc ga : FVec Ideal S1x512 .f32} {n : Fin 16}
  {P : FVec Ideal S128x2304 .f32} {p : FVec Ideal S128x256 .f32} {M : IVec S128x256 1} {c7 c6 : FVec Ideal S1x512 .f32} {w : FVec Ideal S8x512 .f32}
  {gq' : Vec Ideal S1x512 .f32} {gk' : Vec Ideal S1x128 .f32} {gc' ga' : Vec Ideal S1x512 .f32} {B : Fin 8 → Vec Ideal S128x256 .f32} {s : Fin 8 → EReal}

section

variable (hP : ∀ (q : Fin 128) (c : Fin 2304), P (ix2 q c) = x (ix3 0 (row n q) c))

include hP

/-- The convolution. -/
theorem conv_row (h7 : ∀ c : Fin 512, c7 (ix2 0 c) = lag (z x c) (n.val * 128 + 1)) (h6 : ∀ c : Fin 512, c6 (ix2 0 c) = lag (z x c) (n.val * 128))
    (hw : ∀ (k : Fin 3) (c : Fin 512), w (ix2 ⟨k.val, by omega⟩ c) = cw (ix3 0 k c)) (q : Fin 128) (c : Fin 512) :
    conv P c7 c6 w (ix2 q c) = yc x cw (row n q) c := by
  have hZ : ∀ q : Fin 128, zed P (ix2 q c) = z x c ⟨n.val * 128 + q.val, by omega⟩ := fun q => by
    unfold z
    pointwise [zed, hP]
  rw [conv_apply (by omega) hZ (h7 c) (h6 c), hP]
  unfold yc
  rw [← hw 0 c, ← hw 1 c, ← hw 2 c]
  refine congrArg₂ (· * ·) rfl (congrArg₂ (· + ·) (congrArg₂ (· + ·) (mul_comm _ _) (mul_comm _ _)) (mul_comm _ _))

/-- The queries. -/
theorem query (hq : ∀ (h : Fin 8) (d : Fin 64), gq' (ix2 0 ⟨h.val * 64 + d.val, by omega⟩) = gq (ix2 0 d)) (q : Fin 128) (h : Fin 8) (d : Fin 64) :
    qs P gq' (ix2 q ⟨h.val * 64 + d.val, by omega⟩) = qh x gq (row n q) h d * ((1 / 8 : ℝ) : EReal) := by
  rw [qs_apply, hq]
  simp only [hP]
  rfl

variable (hp : ∀ (q : Fin 128) (c : Fin 256), p (ix2 q c) = x (ix3 0 (prior n q) (keyed c)))

include hp

/-- A row of the keys' projections. -/
theorem key_row (j : Fin 256) (h : 128 ≤ 128 * n.val + j.val) (c : Fin 128) :
    k0_pay29 P p (ix2 j c) = x (ix3 0 ⟨128 * n.val + j.val - 128, by omega⟩ ⟨2048 + c.val, by omega⟩) := by
  rw [band_apply]
  split
  · rw [hp]
    exact congrArg (fun r => x (ix3 0 r _)) (Fin.ext (by simp only [prior, keyed]; omega))
  · rw [hP]
    exact congrArg (fun r => x (ix3 0 r _)) (Fin.ext (by simp only []; omega))

theorem key (hk : ∀ (g : Fin 2) (d : Fin 64), gk' (ix2 0 ⟨g.val * 64 + d.val, by omega⟩) = gk (ix2 0 d)) (j : Fin 256) (h : 128 ≤ 128 * n.val + j.val)
    (g : Fin 2) (d : Fin 64) : kn P p gk' (ix2 j ⟨g.val * 64 + d.val, by omega⟩) = band (kh x gk g d) n j := by
  rw [kn_apply, hk]
  simp only [key_row hP hp j h]
  unfold band
  rw [dif_pos h]
  rfl

theorem value (j : Fin 256) (h : 128 ≤ 128 * n.val + j.val) (g : Fin 2) (d : Fin 64) : vs P p g (ix2 j d) = band (vh x g d) n j := by
  rw [vs_apply]
  unfold band vh
  rw [dif_pos h]
  split
  · rw [hp]
    exact congrArg₂ (fun r c => x (ix3 0 r c)) (Fin.ext (by simp only [prior, keyed]; omega)) (Fin.ext (by simp only [prior, keyed]; omega))
  · rw [hP]
    exact congrArg₂ (fun r c => x (ix3 0 r c)) (Fin.ext (by simp only []; omega)) (Fin.ext rfl)

theorem value_first (h0 : n.val = 0) (j : Fin 128) (g : Fin 2) (d : Fin 64) : vs P p g (ix2 ⟨j.val, by omega⟩ d) = vh x g d ⟨j.val, by omega⟩ := by
  rw [vs_apply, dif_pos j.isLt, hp]
  unfold vh
  exact congrArg₂ (fun r c => x (ix3 0 r c)) (Fin.ext (by simp only [prior, h0]; omega)) (Fin.ext (by simp only [prior, keyed]; omega))

variable (hM : ∀ (q : Fin 128) (j : Fin 256), M (ix2 q j) = IntOp.andi (within q j) (inside n j))
  (hq : ∀ (h : Fin 8) (d : Fin 64), gq' (ix2 0 ⟨h.val * 64 + d.val, by omega⟩) = gq (ix2 0 d))
  (hk : ∀ (g : Fin 2) (d : Fin 64), gk' (ix2 0 ⟨g.val * 64 + d.val, by omega⟩) = gk (ix2 0 d))
  (hB : ∀ (h : Fin 8) (q : Fin 128) (j : Fin 256), B h (ix2 q j) = val_main_v36 (F := Ideal) tab (ix3 h q j))
  (hs : ∀ h : Fin 8, s h = sk (ix2 0 h))

include hM hq hk hB

/-- The scores. -/
theorem score_row (q : Fin 128) (h : Fin 8) (j : Fin 256) :
    scores (qs P gq') (kn P p gk') (B h) M h (ix2 q j) = sc x gq gk tab n q h j := by
  rw [scores_apply, hM, hB]
  simp only [query hP hq]
  refine (score_scaled _ _ (fun d => kn P p gk' (ix2 j ⟨h.val / 4 * 64 + d.val, by omega⟩)) _).trans ?_
  unfold sc
  exact score_congr fun hb => funext fun d => key hP hp hk j (inside_le n j (andi_right _ _ hb)) (grp h) d

include hs

/-- The attention. -/
theorem attn_row (q : Fin 128) (h : Fin 8) (d : Fin 64) :
    attn P p M (qs P gq') (kn P p gk') B s (ix2 q ⟨h.val * 64 + d.val, by omega⟩) = ya x gq gk tab sk n q h d := by
  unfold attn
  rw [heads_apply, head_apply, hs, show (fun j => scores (qs P gq') (kn P p gk') (B h) M h (ix2 q j)) = sc x gq gk tab n q h from
    funext fun j => score_row hP hp hM hq hk hB q h j]
  unfold ya
  by_cases h0 : n.val = 0
  · refine att_first _ (fun j hj => ?_) (fun j hj => ?_) (fun j => ?_) (fun j => ?_)
    · unfold sc score
      rw [show n = 0 from Fin.ext h0, inside_first j hj, andi_zero]
      rfl
    · unfold band
      rw [dif_neg (by omega)]
    · rw [value_first hP hp h0]
      unfold band
      rw [dif_pos (by simp only []; omega)]
      exact congrArg (vh x _ d) (Fin.ext (by simp only []; omega))
    · exact value hP hp _ (by simp only []; omega) _ d
  · exact congrArg (att _ _) (funext fun j => value hP hp j (by omega) _ d)

theorem block_row (h7 : ∀ c : Fin 512, c7 (ix2 0 c) = lag (z x c) (n.val * 128 + 1)) (h6 : ∀ c : Fin 512, c6 (ix2 0 c) = lag (z x c) (n.val * 128))
    (hw : ∀ (k : Fin 3) (c : Fin 512), w (ix2 ⟨k.val, by omega⟩ c) = cw (ix3 0 k c))
    (hc : ∀ c : Fin 512, gc' (ix2 0 c) = gc (ix2 0 c)) (ha : ∀ c : Fin 512, ga' (ix2 0 c) = ga (ix2 0 c)) (q : Fin 128) (c : Fin 1024) :
    block P p M c7 c6 w gq' gk' gc' ga' B s (ix2 q c) = out x cw gq gk tab sk gc ga (row n q) c := by
  unfold block
  have hC := fun c => conv_row hP h7 h6 hw q c
  have hA : ∀ c : Fin 512, attn P p M (qs P gq') (kn P p gk') B s (ix2 q c) = yf x gq gk tab sk (row n q) c := fun c => by
    have e : c = ⟨c.val / 64 * 64 + c.val % 64, by omega⟩ := Fin.ext (by simp only []; omega)
    conv_lhs => rw [e]
    refine (attn_row hP hp hM hq hk hB hs q ⟨c.val / 64, by omega⟩ ⟨c.val % 64, by omega⟩).trans ?_
    unfold yf
    exact congrArg₂ (fun a b => ya x gq gk tab sk a b _ _) (Fin.ext (by simp only []; omega)) (Fin.ext (by simp only []; omega))
  rw [normed_apply]
  simp only [hC, hA, hc, ha]
  rfl

end

end Cert.MixFwdIdeal.Vec

end
-- ==== Proof.FwdReads.lean ====
/- `mix_fwd`: the blocks a grid point reads, as entries of the arguments. -/
module

public import proofs.«01_k».proof.Defs
public import proofs.«01_k».proof.Proof.Gen.MixFwdIdeal.Value
public import proofs.«01_k».proof.Proof.FwdBlock
public import proofs.«01_k».proof.Proof.FwdPoint
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFwdIdeal.Vec

open Cert.MixFwdIdeal Cert.MixFwdIdeal.Gen Cert.MixFwdRefIdeal.Closed Cert.MixFwdRefIdeal.Read Cert.Mixer Cert.ActConv

variable (m : (ℓ : Loc nD τ sig) → Buf (Elt Ideal) ℓ) (c : Dev nD)

/-- The arguments' arrays: the projections, the taps, the gains of queries and keys, the table of the bias, the sinks, the two gains of the norms. -/
abbrev X : FVec Ideal S1x2048x2304 .f32 := m ((c : Thread nD τ).loc main_arg0)
abbrev CWt : FVec Ideal S1x3x512 .f32 := m ((c : Thread nD τ).loc main_arg1)
abbrev GQ : FVec Ideal S1x64 .f32 := m ((c : Thread nD τ).loc main_arg2)
abbrev GK : FVec Ideal S1x64 .f32 := m ((c : Thread nD τ).loc main_arg3)
abbrev TAB : FVec Ideal S32x8 .f32 := m ((c : Thread nD τ).loc main_arg4)
abbrev SK : FVec Ideal S1x8 .f32 := m ((c : Thread nD τ).loc main_arg5)
abbrev GC : FVec Ideal S1x512 .f32 := m ((c : Thread nD τ).loc main_arg6)
abbrev GA : FVec Ideal S1x512 .f32 := m ((c : Thread nD τ).loc main_arg7)

variable (t : Fin cfg0.N)

theorem idx : ∀ t : Fin cfg0.N, win0_0.index t = ![0, 0] ∧ win0_1.index t = ![t.val, 0] ∧ win0_2.index t = ![t.val * 32 - 1, 1]
    ∧ win0_3.index t = ![t.val * 32 - 1, 2] ∧ win0_4.index t = ![2 * t.val - 1, 8] ∧ win0_5.index t = ![0, 0] ∧ win0_6.index t = ![0, 0]
    ∧ win0_7.index t = ![0, 0] ∧ win0_8.index t = ![0, 0] ∧ win0_9.index t = ![0, 0] ∧ win0_11.index t = ![0, 0] ∧ win0_12.index t = ![t.val, 0] :=
  (by decide +kernel : ∀ t : Fin grid0.N, _)

theorem first_block : ∀ t : Fin cfg0.N, Scalar.cmpi .eq (BitVec.ofNat 32 (grid0.coords t 0).val) 0#32 = if t.val = 0 then 1 else 0 :=
  (by decide +kernel : ∀ t : Fin grid0.N, _)

theorem V_v2 : V m c main_v2 = concatenate S8x512 0 [⟨S3x512, shapeCast S3x512 (CWt m c) shapeCasts_S1x3x512_S3x512⟩,
    ⟨S5x512, broadcastInDim S5x512 ![] bcast_S_S5x512 (constant (F := Ideal) S_ .f32 0x00000000#32)⟩] concatenates_S3x512_S5x512_S8x512_d0 := by
  unfold V; simp only [hostOps0, hostOps0_1, hostOps0_2, List.flatten_cons, List.flatten_nil, List.append_nil, List.cons_append, List.nil_append]
  after_results; rfl

theorem V_v42 : V m c main_v42 = shapeCast S2048x2304 (X m c) shapeCasts_S1x2048x2304_S2048x2304 := by
  unfold V; simp only [hostOps0, hostOps0_1, hostOps0_2, List.flatten_cons, List.flatten_nil, List.append_nil, List.cons_append, List.nil_append]
  after_results; rfl

theorem V_v45 : V m c main_v45 = shapeCast S1x512 (broadcastInDim S1x1x8x64 ![0, 1, 2, 3] bcast_S1x1x1x64_S1x1x8x64_0_1_2_3
    (shapeCast S1x1x1x64 (GQ m c) shapeCasts_S1x64_S1x1x1x64)) shapeCasts_S1x1x8x64_S1x512 := by
  unfold V; simp only [hostOps0, hostOps0_1, hostOps0_2, List.flatten_cons, List.flatten_nil, List.append_nil, List.cons_append, List.nil_append]
  after_results; rfl

theorem V_v48 : V m c main_v48 = shapeCast S1x128 (broadcastInDim S1x1x2x64 ![0, 1, 2, 3] bcast_S1x1x1x64_S1x1x2x64_0_1_2_3
    (shapeCast S1x1x1x64 (GK m c) shapeCasts_S1x64_S1x1x1x64)) shapeCasts_S1x1x2x64_S1x128 := by
  unfold V; simp only [hostOps0, hostOps0_1, hostOps0_2, List.flatten_cons, List.flatten_nil, List.append_nil, List.cons_append, List.nil_append]
  after_results; rfl

theorem V_v41 : V m c main_v41 = shapeCast S1024x256 (shapeCast S2x4x128x256 (val_main_v36 (F := Ideal) (TAB m c)) shapeCasts_S8x128x256_S2x4x128x256)
    shapeCasts_S2x4x128x256_S1024x256 := by
  unfold V; simp only [hostOps0, hostOps0_1, hostOps0_2, List.flatten_cons, List.flatten_nil, List.append_nil, List.cons_append, List.nil_append]
  after_results; simp only [StableHlo.TRef.toBuf, StableHlo.TRef.ofBuf, cast_eq]
  simp only [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_4, val_main_c_5, val_main_c_6, val_main_c_7, val_main_c_8, val_main_cst, val_main_cst_2, val_main_cst_3]
  rfl

/-- What a grid point holds: its rows, the keys' and values' rows above them, the eight rows above of the convolution's two factors, the taps, the gains,
    the sinks and the bias. -/
def tP : FVec Ideal S256x2304 .f32 := iblk m c 1 t
def tK : FVec Ideal S128x256 .f32 := iblk m c 4 t
def tZc : FVec Ideal S8x512 .f32 := X0_2 m c t
def tZh : FVec Ideal S8x512 .f32 := X0_3 m c t
def tW : FVec Ideal S8x512 .f32 := iblk m c 5 t
def tGq : FVec Ideal S1x512 .f32 := iblk m c 6 t
def tGk : FVec Ideal S1x128 .f32 := iblk m c 7 t
def tGc : FVec Ideal S1x512 .f32 := iblk m c 8 t
def tGa : FVec Ideal S1x512 .f32 := iblk m c 9 t
def tS : FVec Ideal S1x8 .f32 := iblk m c 0 t
def tB : FVec Ideal S1024x256 .f32 := iblk m c 11 t

theorem blk_p (q : Fin 256) (k : Fin 2304) : tP m c t (ix2 q k)
    = X m c (ix3 0 ⟨t.val * 256 + q.val, by have := lt_of_lt_of_eq t.isLt N_0; omega⟩ k) := by
  refine (congrFun (V_v42 m c) _).trans ?_
  rw [show (win0_1.blk t).view.emb (ix2 q k) = ix2 ⟨t.val * 256 + q.val, by have := lt_of_lt_of_eq t.isLt N_0; omega⟩ k by blk_ext [idx t]]
  pointwise

theorem blk_pk (q : Fin 128) (k : Fin 256) : tK m c t (ix2 q k)
    = X m c (ix3 0 ⟨(2 * t.val - 1) * 128 + q.val, by have := lt_of_lt_of_eq t.isLt N_0; omega⟩ ⟨2048 + k.val, by omega⟩) := by
  refine (congrFun (V_v42 m c) _).trans ?_
  rw [show (win0_4.blk t).view.emb (ix2 q k) = ix2 ⟨(2 * t.val - 1) * 128 + q.val, by have := lt_of_lt_of_eq t.isLt N_0; omega⟩ ⟨2048 + k.val, by omega⟩
    by blk_ext [idx t]]
  pointwise

/-- Row `r` of the eight above point `t`'s block. -/
def above (r : Fin 8) : Fin 2048 := ⟨(t.val * 32 - 1) * 8 + r.val, by have := lt_of_lt_of_eq t.isLt N_0; omega⟩

theorem blk_zc (r : Fin 8) (k : Fin 512) : tZc m c t (ix2 r k)
    = X m c (ix3 0 (above t r) ⟨512 + k.val, by omega⟩) := by
  show (cfg0.win 2).fill _ _ _ (ix2 r k) = _
  unfold Pipeline.Window.fill
  rw [dif_pos (moved0_2 t _)]
  refine (congrFun (V_v42 m c) _).trans ?_
  rw [show ((cfg0.win 2).blk t).view.emb (fun a => ⟨(ix2 r k a).val, ((cfg0.win 2).moved_iff _ _).mp (moved0_2 t (ix2 r k)) a⟩) = ix2 (above t r) ⟨512 + k.val, by omega⟩ by unfold above; blk_ext [idx t]]
  pointwise

theorem blk_zh (r : Fin 8) (k : Fin 512) : tZh m c t (ix2 r k)
    = X m c (ix3 0 (above t r) ⟨1024 + k.val, by omega⟩) := by
  show (cfg0.win 3).fill _ _ _ (ix2 r k) = _
  unfold Pipeline.Window.fill
  rw [dif_pos (moved0_3 t _)]
  refine (congrFun (V_v42 m c) _).trans ?_
  rw [show ((cfg0.win 3).blk t).view.emb (fun a => ⟨(ix2 r k a).val, ((cfg0.win 3).moved_iff _ _).mp (moved0_3 t (ix2 r k)) a⟩) = ix2 (above t r) ⟨1024 + k.val, by omega⟩ by unfold above; blk_ext [idx t]]
  pointwise

/-- The taps, below them five rows of zeros. -/
theorem blk_w (k : Fin 3) (q : Fin 512) : tW m c t (ix2 ⟨k.val, by omega⟩ q) = CWt m c (ix3 0 k q) := by
  refine (congrFun (V_v2 m c) _).trans ?_
  rw [show (win0_5.blk t).view.emb (ix2 ⟨k.val, by omega⟩ q) = ix2 ⟨k.val, by omega⟩ q by blk_ext [idx t]]
  pointwise

theorem blk_gq (h : Fin 8) (d : Fin 64) : tGq m c t (ix2 0 ⟨h.val * 64 + d.val, by omega⟩) = GQ m c (ix2 0 d) := by
  refine (congrFun (V_v45 m c) _).trans ?_
  rw [show (win0_6.blk t).view.emb (ix2 0 ⟨h.val * 64 + d.val, by omega⟩) = ix2 0 ⟨h.val * 64 + d.val, by omega⟩ by blk_ext [idx t]]
  pointwise

theorem blk_gk (g : Fin 2) (d : Fin 64) : tGk m c t (ix2 0 ⟨g.val * 64 + d.val, by omega⟩) = GK m c (ix2 0 d) := by
  refine (congrFun (V_v48 m c) _).trans ?_
  rw [show (win0_7.blk t).view.emb (ix2 0 ⟨g.val * 64 + d.val, by omega⟩) = ix2 0 ⟨g.val * 64 + d.val, by omega⟩ by blk_ext [idx t]]
  pointwise

theorem blk_gc (k : Fin 512) : tGc m c t (ix2 0 k) = GC m c (ix2 0 k) := by
  refine (congrFun (V_main_arg6 m c) _).trans ?_
  rw [show (win0_8.blk t).view.emb (ix2 0 k) = ix2 0 k by blk_ext [idx t]]

theorem blk_ga (k : Fin 512) : tGa m c t (ix2 0 k) = GA m c (ix2 0 k) := by
  refine (congrFun (V_main_arg7 m c) _).trans ?_
  rw [show (win0_9.blk t).view.emb (ix2 0 k) = ix2 0 k by blk_ext [idx t]]

theorem blk_s (h : Fin 8) : tS m c t (ix2 0 h) = SK m c (ix2 0 h) := by
  refine (congrFun (V_main_arg5 m c) _).trans ?_
  rw [show (win0_0.blk t).view.emb (ix2 0 h) = ix2 0 h by blk_ext [idx t]]

theorem blk_b (h : Fin 8) (q : Fin 128) (j : Fin 256) : tB m c t (ix2 ⟨h.val * 128 + q.val, by omega⟩ j)
    = val_main_v36 (F := Ideal) (TAB m c) (ix3 h q j) := by
  refine (congrFun (V_v41 m c) _).trans ?_
  rw [show (win0_11.blk t).view.emb (ix2 ⟨h.val * 128 + q.val, by omega⟩ j) = ix2 ⟨h.val * 128 + q.val, by omega⟩ j by blk_ext [idx t]]
  pointwise

/-! ## The kernel's own slices of its blocks -/

theorem top_rows (v0 : FVec Ideal S256x2304 .f32) (q : Fin 128) (k : Fin 2304) : k0_pay3 v0 (ix2 q k) = v0 (ix2 ⟨q.val, by omega⟩ k) := by
  pointwise [k0_pay3, k0_pay2]

theorem low_rows (v0 : FVec Ideal S256x2304 .f32) (q : Fin 128) (k : Fin 2304) :
    k0_pay58 (k0_pay2 v0) (ix2 q k) = v0 (ix2 ⟨128 + q.val, by omega⟩ k) := by
  pointwise [k0_pay58, k0_pay2]

theorem top_keys (v0 : FVec Ideal S256x2304 .f32) (q : Fin 128) (k : Fin 256) :
    k0_pay59 (k0_pay2 v0) (ix2 q k) = v0 (ix2 ⟨q.val, by omega⟩ ⟨2048 + k.val, by omega⟩) := by
  pointwise [k0_pay59, k0_pay2]

/-- The rows above the first block, zeros at the sequence's start. -/
theorem carry_first (i : grid0.Coords) (v4 v6 : FVec Ideal S8x512 .f32) (k : Fin 512) :
    k0_pay9 i v4 v6 (ix2 0 k) = v4 (ix2 7 k) * v6 (ix2 7 k) * Scalar.select (Scalar.cmpi .eq (BitVec.ofNat 32 (i 0).val) 0#32) (0 : EReal) 1
    ∧ k0_pay10 i v4 v6 (ix2 0 k) = v4 (ix2 6 k) * v6 (ix2 6 k) * Scalar.select (Scalar.cmpi .eq (BitVec.ofNat 32 (i 0).val) 0#32) (0 : EReal) 1 := by
  constructor
  · pointwise [k0_pay9, k0_pay8]
  · pointwise [k0_pay10, k0_pay8]

/-- The rows above the second block. -/
theorem carry_second (v0 : FVec Ideal S256x2304 .f32) (k : Fin 512) :
    k0_pay64 (k0_pay2 v0) (ix2 0 k) = v0 (ix2 127 ⟨512 + k.val, by omega⟩) * v0 (ix2 127 ⟨1024 + k.val, by omega⟩)
    ∧ k0_pay65 (k0_pay2 v0) (ix2 0 k) = v0 (ix2 126 ⟨512 + k.val, by omega⟩) * v0 (ix2 126 ⟨1024 + k.val, by omega⟩) := by
  constructor
  · pointwise [k0_pay64, k0_pay63, k0_pay2]
  · pointwise [k0_pay65, k0_pay63, k0_pay2]

theorem keys_above (v8 : FVec Ideal S128x256 .f32) (q : Fin 128) (k : Fin 256) : k0_pay4 v8 (ix2 q k) = v8 (ix2 q k) := by
  pointwise [k0_pay4]

theorem taps_first (v : FVec Ideal S8x512 .f32) (k : Fin 8) (q : Fin 512) : k0_pay5 v (ix2 k q) = v (ix2 k q) := by
  pointwise [k0_pay5]

theorem inb_bias (h : Fin 8) : ∀ a, (![128 * h.val, 0] : Fin 2 → Nat) a + S128x256.size a ≤ S1024x256.size a := by revert h; decide
theorem inb_sink (h : Fin 8) : ∀ a, (![0, h.val] : Fin 2 → Nat) a + S1x1.size a ≤ S1x8.size a := by revert h; decide

/-- A head's bias and its sink, as loaded. -/
def bias (v : Vec Ideal S1024x256 .f32) (h : Fin 8) : Vec Ideal S128x256 .f32 :=
  View.ld v (Rect.unit (s := S1024x256) ![128 * h.val, 0] S128x256.size (inb_bias h))
def sink (v : Vec Ideal S1x8 .f32) (h : Fin 8) : EReal :=
  View.ld v (Rect.unit (s := S1x8) ![0, h.val] S1x1.size (inb_sink h)) (Shape.Idx.first (numel1_S1x1.symm ▸ Nat.one_pos))

theorem bias_apply (v : Vec Ideal S1024x256 .f32) (h : Fin 8) (q : Fin 128) (j : Fin 256) : bias v h (ix2 q j) = v (ix2 ⟨h.val * 128 + q.val, by omega⟩ j) := by
  unfold bias
  exact congrArg v (by idx_ext <;> simp [Rect.unit] <;> omega)

theorem sink_apply (v : Vec Ideal S1x8 .f32) (h : Fin 8) : sink v h = v (ix2 0 h) := by
  unfold sink
  exact congrArg v (by idx_ext <;> simp [Rect.unit, Shape.Idx.first])

end Cert.MixFwdIdeal.Vec

end
-- ==== Proof.FwdFinal.lean ====
/- `mix_fwd`: the array the kernel leaves. -/
module

public import proofs.«01_k».proof.Defs
public import proofs.«01_k».proof.Proof.Gen.MixFwdIdeal.Value
public import proofs.«01_k».proof.Proof.FwdReads
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFwdIdeal.Vec

open Cert.MixFwdIdeal Cert.MixFwdIdeal.Gen Cert.MixFwdRefIdeal.Closed Cert.MixFwdRefIdeal.Read Cert.Mixer Cert.ActConv

variable (m : (ℓ : Loc nD τ sig) → Buf (Elt Ideal) ℓ) (c : Dev nD)

variable (t : Fin cfg0.N)

/-! ## The rows of a grid point's two blocks -/

/-- Blocks `2t` and `2t + 1` of the sequence. -/
def fst : Fin 16 := ⟨2 * t.val, by have := lt_of_lt_of_eq t.isLt N_0; omega⟩
def snd : Fin 16 := ⟨2 * t.val + 1, by have := lt_of_lt_of_eq t.isLt N_0; omega⟩

theorem lag_row (u : Fin 2048 → EReal) (n : ℕ) (r : Fin 2048) (h : n = r.val + 2) : lag u n = u r := by
  subst h
  unfold lag
  rw [if_neg (by omega), Nat.add_sub_cancel]
  exact at0_val u r

theorem lag_start (u : Fin 2048 → EReal) (n : ℕ) (h : n < 2) : lag u n = 0 := if_pos h

/-- A row above the first block, or zero. -/
theorem lag_first (r : Fin 8) (n : ℕ) (h : n + 6 = t.val * 256 + r.val) (h6 : 6 ≤ r.val) (k : Fin 512) :
    X m c (ix3 0 (above t r) ⟨512 + k.val, by omega⟩) * X m c (ix3 0 (above t r) ⟨1024 + k.val, by omega⟩)
      * Scalar.select (if t.val = 0 then 1 else 0 : BitVec 1) (0 : EReal) 1 = lag (z (X m c) k) n := by
  by_cases h0 : t.val = 0
  · rw [if_pos h0, lag_start _ _ (by omega)]
    exact mul_zero _
  · rw [if_neg h0, lag_row _ _ (above t r) (by unfold above; simp only []; omega)]
    exact mul_one _

theorem own (j : Fin 256) : IntOp.cmpi .sge (BitVec.ofNat 32 j.val) (Scalar.select (if t.val = 0 then 1 else 0 : BitVec 1) 128#32 0#32) = inside (fst t) j := by
  by_cases h0 : t.val = 0
  · rw [if_pos h0, show fst t = 0 from Fin.ext (by unfold fst; simp only []; omega)]
    exact own_first j
  · rw [if_neg h0]
    exact own_later (fst t) (by unfold fst; simp only []; omega) j

theorem row_first (q : Fin 128) : row (fst t) q = ⟨t.val * 256 + q.val, by have := lt_of_lt_of_eq t.isLt N_0; omega⟩ :=
  Fin.ext (by unfold row fst; simp only []; omega)

theorem row_second (q : Fin 128) : row (snd t) q = ⟨t.val * 256 + (128 + q.val), by have := lt_of_lt_of_eq t.isLt N_0; omega⟩ :=
  Fin.ext (by unfold row snd; simp only []; omega)

theorem mask_first (q : Fin 128) (j : Fin 256) :
    k0_pay13 (Scalar.cmpi .eq (BitVec.ofNat 32 (grid0.coords t 0).val) 0#32) (ix2 q j) = IntOp.andi (within q j) (inside (fst t) j) := by
  rw [mask_apply, first_block, own]

theorem above_one (k : Fin 512) : k0_pay9 (F := Ideal) (grid0.coords t) (tZc m c t) (tZh m c t) (ix2 0 k)
    = lag (z (X m c) k) ((fst t).val * 128 + 1) := by
  refine (carry_first _ _ _ k).1.trans ?_
  rw [blk_zc, blk_zh, first_block]
  exact lag_first m c t 7 _ (by unfold fst; simp only [Fin.val_ofNat]; omega) (by decide) k

theorem above_two (k : Fin 512) : k0_pay10 (F := Ideal) (grid0.coords t) (tZc m c t) (tZh m c t) (ix2 0 k)
    = lag (z (X m c) k) ((fst t).val * 128) := by
  refine (carry_first _ _ _ k).2.trans ?_
  rw [blk_zc, blk_zh, first_block]
  exact lag_first m c t 6 _ (by unfold fst; simp only [Fin.val_ofNat]; omega) (by decide) k

theorem rows_first (q : Fin 128) (k : Fin 1024) :
    block (k0_pay3 (tP m c t)) (k0_pay4 (tK m c t)) (k0_pay13 (Scalar.cmpi .eq (BitVec.ofNat 32 (grid0.coords t 0).val) 0#32))
      (k0_pay9 (grid0.coords t) (tZc m c t) (tZh m c t)) (k0_pay10 (grid0.coords t) (tZc m c t) (tZh m c t)) (k0_pay5 (tW m c t))
      (tGq m c t) (tGk m c t) (tGc m c t) (tGa m c t) (bias (tB m c t)) (sink (tS m c t)) (ix2 q k)
    = out (X m c) (CWt m c) (GQ m c) (GK m c) (TAB m c) (SK m c) (GC m c) (GA m c) (row (fst t) q) k :=
  block_row (n := fst t) (fun q k => by rw [top_rows, row_first]; exact blk_p m c t ⟨q.val, by omega⟩ k)
    (fun q k => by
      refine (keys_above _ q k).trans ((blk_pk m c t q k).trans ?_)
      exact congrArg (fun r => X m c (ix3 0 r (keyed k))) (Fin.ext (by unfold prior fst; rfl)))
    (fun q j => mask_first t q j)
    (fun h d => blk_gq m c t h d) (fun g d => blk_gk m c t g d)
    (fun h q j => (bias_apply _ h q j).trans (blk_b m c t h q j)) (fun h => (sink_apply _ h).trans (blk_s m c t h))
    (fun k => above_one m c t k) (fun k => above_two m c t k)
    (fun j k => (taps_first _ _ k).trans (blk_w m c t j k)) (fun k => blk_gc m c t k) (fun k => blk_ga m c t k) q k

theorem rows_second (q : Fin 128) (k : Fin 1024) :
    block (k0_pay58 (k0_pay2 (tP m c t))) (k0_pay59 (k0_pay2 (tP m c t))) k0_pay68
      (k0_pay64 (k0_pay2 (tP m c t))) (k0_pay65 (k0_pay2 (tP m c t))) (k0_pay60 (tW m c t))
      (tGq m c t) (tGk m c t) (tGc m c t) (tGa m c t) (bias (tB m c t)) (sink (tS m c t)) (ix2 q k)
    = out (X m c) (CWt m c) (GQ m c) (GK m c) (TAB m c) (SK m c) (GC m c) (GA m c) (row (snd t) q) k :=
  block_row (n := snd t) (fun q k => by rw [low_rows, row_second]; exact blk_p m c t ⟨128 + q.val, by omega⟩ k)
    (fun q k => by
      rw [top_keys]
      refine (blk_p m c t ⟨q.val, by omega⟩ ⟨2048 + k.val, by omega⟩).trans ?_
      exact congrArg (fun r => X m c (ix3 0 r (keyed k))) (Fin.ext (by unfold prior snd; simp only []; omega)))
    (fun q j => (mask_apply 0#1 q j).trans (congrArg _ (own_later (snd t) (by unfold snd; simp only []; omega) j)))
    (fun h d => blk_gq m c t h d) (fun g d => blk_gk m c t g d)
    (fun h q j => (bias_apply _ h q j).trans (blk_b m c t h q j)) (fun h => (sink_apply _ h).trans (blk_s m c t h))
    (fun k => by
      rw [(carry_second _ k).1]
      refine (congrArg₂ (fun a b : EReal => a * b) (blk_p m c t 127 _) (blk_p m c t 127 _)).trans ?_
      exact (lag_row (z (X m c) k) _ _ (by unfold snd; simp only []; omega)).symm)
    (fun k => by
      rw [(carry_second _ k).2]
      refine (congrArg₂ (fun a b : EReal => a * b) (blk_p m c t 126 _) (blk_p m c t 126 _)).trans ?_
      exact (lag_row (z (X m c) k) _ _ (by unfold snd; simp only []; omega)).symm)
    (fun j k => (taps_first _ _ k).trans (blk_w m c t j k)) (fun k => blk_gc m c t k) (fun k => blk_ga m c t k) q k

theorem outs12 (y : S256x1024.Idx) : outsAt0 m c t y = out (X m c) (CWt m c) (GQ m c) (GK m c) (TAB m c) (SK m c) (GC m c) (GA m c)
    ⟨t.val * 256 + (y 0).val, by have := lt_of_lt_of_eq t.isLt N_0; have h : (y 0).val < 256 := (y 0).isLt; omega⟩ (y 1) := by
  unfold outsAt0
  idx_vars y
  frame_out
  simp only [kn_0, kn_1, qs_0, qs_1, first_0, first_1, first_2, first_3, first_4, first_5, first_6, first_conv, first_norm,
    second_0, second_1, second_2, second_3, second_4, second_5, second_6, second_conv, second_norm]
  canon_tiles x hx <;> obtain ⟨r, q, rfl⟩ : ∃ (r : Fin 128) (q : Fin 1024), x = ix2 r q := ⟨x 0, x 1, by idx_vars x⟩
  · obtain rfl : y1 = q := Fin.ext hx1
    obtain rfl : y0 = ⟨128 + r.val, Nat.add_lt_add_left r.isLt 128⟩ := Fin.ext hx0
    refine (congrFun (congrArg₂ (normed _ _) (second_conv _ _) (heads_all _ _ _ _ _ (bias (tB m c t)) (sink (tS m c t)))) _).trans ?_
    refine (rows_second m c t r y1).trans ?_
    rw [row_second]
  · obtain rfl : y1 = q := Fin.ext hx1
    obtain rfl : y0 = ⟨r.val, by have := r.isLt; clear * - this; omega⟩ := Fin.ext hx0
    refine (congrFun (congrArg₂ (normed _ _) (first_conv _ _ _ _ _) (heads_all _ _ _ _ _ (bias (tB m c t)) (sink (tS m c t)))) _).trans ?_
    refine (rows_first m c t r y1).trans ?_
    rw [row_first]

theorem final12 : (dats m 0 c).arrAt 12 (cfgs 0).N
    = fun i => out (X m c) (CWt m c) (GQ m c) (GK m c) (TAB m c) (SK m c) (GC m c) (GA m c) (i 0) (i 1) := by
  refine (dats m 0 c).arrAt_eq_of_covers 12 _ (by decide +kernel) fun t hf y => ?_
  blk_simp
  rw [after0_12]
  refine (outs12 m c t y).trans ?_
  exact congrArg₂ (out (X m c) (CWt m c) (GQ m c) (GK m c) (TAB m c) (SK m c) (GC m c) (GA m c)) (Fin.ext (by blk_simp [idx t])) (Fin.ext (by blk_simp [idx t]))

end Cert.MixFwdIdeal.Vec

end
-- ==== Proof.FwdValue.lean ====
/- The claims of `mix_fwd`. -/
module

public import proofs.«01_k».proof.Defs
public import proofs.«01_k».proof.Proof.FwdFinal
public import proofs.«01_k».proof.Proof.Gen.MixFwd.Frame
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Fwd

open Cert.MixFwdIdeal.Vec

open Cert.MixFwdRefIdeal.Closed (out ref_out)

theorem frame_p : Cert.quiescent_MixFwd := fun m ρ _ => Cert.MixFwd.Gen.frame m ρ
theorem frame_pi : Cert.quiescent_MixFwdIdeal := fun m ρ _ => Cert.MixFwdIdeal.Gen.frame m ρ
theorem frame_ri : Cert.quiescent_MixFwdRefIdeal := fun m ρ _ =>
  (θ_run Cert.MixFwdRefIdeal.defs _ _).mono (fun r h => ⟨fun c => (h c).2, sem_eq_zero_of_no_sems (by decide) r.2⟩)
    (Cert.MixFwdRefIdeal.Value.run (F := Ideal) m ρ)
theorem preserves : Cert.preserves_MixFwd_MixFwdIdeal :=
  IdealRules.named_const.statement Cert.MixFwdIdeal.κ "mask" .f32 0xF149F2CA#32 ⊥ rfl

/-- Both programs end with the closed form of the arguments. -/
theorem value : Cert.algebraic_MixFwdIdeal_MixFwdRefIdeal := by
  intro m g m' g' _ hm
  refine ⟨fun c i => out (X m c) (CWt m c) (GQ m c) (GK m c) (TAB m c) (SK m c) (GC m c) (GA m c) (i 0) (i 1),
    (θ_run Cert.MixFwdIdeal.defs _ _).mono (fun r h c => ?_) (Cert.MixFwdIdeal.Value.run_blocks m g),
    (θ_run Cert.MixFwdRefIdeal.defs _ _).mono (fun r h c => ?_) (Cert.MixFwdRefIdeal.Value.run m' g')⟩
  · obtain ⟨h0, hk⟩ := h c
    exact ⟨h0.trans (final12 m c), hk⟩
  · obtain ⟨h0, hk⟩ := h c
    obtain ⟨a0, a1, a2, a3, a4, a5, a6, a7⟩ := hm c
    refine ⟨h0.trans ?_, hk⟩
    rw [Cert.MixFwdRefIdeal.Read.val_main_v195_eq]
    funext i; idx_vars i
    refine (ref_out ..).trans ?_
    show out (m' (c.tc.loc Cert.MixFwdRefIdeal.main_arg0)) (m' (c.tc.loc Cert.MixFwdRefIdeal.main_arg1)) (m' (c.tc.loc Cert.MixFwdRefIdeal.main_arg2))
      (m' (c.tc.loc Cert.MixFwdRefIdeal.main_arg3)) (m' (c.tc.loc Cert.MixFwdRefIdeal.main_arg4)) (m' (c.tc.loc Cert.MixFwdRefIdeal.main_arg5))
      (m' (c.tc.loc Cert.MixFwdRefIdeal.main_arg6)) (m' (c.tc.loc Cert.MixFwdRefIdeal.main_arg7)) _ _ = _
    rw [a0, a1, a2, a3, a4, a5, a6, a7]

end Cert.Proof.Fwd

end
-- ==== Proof.NormProducts.lean ====
/- The two forward calls that join a norm and a product: `inproj` (the norm, then the input product) and `outproj` (the
   output product, the residual, then the norm). Each point stores 512 rows of the reference's arrays. -/
module

public import proofs.«01_k».proof.Defs
public import proofs.«01_k».proof.Proof.Gen.InFwd.Frame
public import proofs.«01_k».proof.Proof.Gen.InFwdIdeal.Value
public import proofs.«01_k».proof.Proof.Gen.InFwdRefIdeal.Read
public import proofs.«01_k».proof.Proof.Gen.OutFwd.Frame
public import proofs.«01_k».proof.Proof.Gen.OutFwdIdeal.Value
public import proofs.«01_k».proof.Proof.Gen.OutFwdRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InFwdIdeal.Closed

open Cert.InFwdIdeal Cert.InFwdIdeal.Gen Cert.InFwdRefIdeal.Read

variable (m : (ℓ : Loc nD τ sig) → Buf (Elt Ideal) ℓ) (c : Dev nD)

abbrev X : FVec Ideal S1x2048x1024 .f32 := m ((c : Thread nD τ).loc main_arg0)
abbrev G : FVec Ideal S1x1024 .f32 := m ((c : Thread nD τ).loc main_arg1)
abbrev W : FVec Ideal S1x1024x2304 .f32 := m ((c : Thread nD τ).loc main_arg2)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final_proj : (dats m 0 c).arrAt 3 (cfgs 0).N = val_main_v16 (F := Ideal) (X m c) (G m c) (W m c) := by
  refine (dats m 0 c).arrAt_eq_of_covers 3 _ (by decide +kernel) fun t _ y => ?_
  blk_simp
  rw [after0_3]; frame_out
  pointwise [k0_pay1, k0_pay3, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

theorem final_u : (dats m 0 c).arrAt 4 (cfgs 0).N = val_main_v18 (F := Ideal) (X m c) (G m c) := by
  refine (dats m 0 c).arrAt_eq_of_covers 4 _ (by decide +kernel) fun t _ y => ?_
  blk_simp
  rw [after0_4]; frame_out
  pointwise [k0_pay1, k0_pay2, val_main_v18, val_main_v17, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.InFwdIdeal.Closed

namespace Cert.Proof.In

open Cert.InFwdIdeal.Closed Cert.InFwdRefIdeal.Read

theorem frame_p : Cert.quiescent_InFwd := fun m ρ _ => Cert.InFwd.Gen.frame m ρ
theorem frame_pi : Cert.quiescent_InFwdIdeal := fun m ρ _ => Cert.InFwdIdeal.Gen.frame m ρ
theorem frame_ri : Cert.quiescent_InFwdRefIdeal := fun m ρ _ =>
  (θ_run Cert.InFwdRefIdeal.defs _ _).mono (fun r h => ⟨fun c => (h c).2.2, sem_eq_zero_of_no_sems (by decide) r.2⟩)
    (Cert.InFwdRefIdeal.Value.run (F := Ideal) m ρ)
theorem preserves : Cert.preserves_InFwd_InFwdIdeal := trivial

theorem value : Cert.algebraic_InFwdIdeal_InFwdRefIdeal := by
  intro m g m' g' _ hm
  refine ⟨fun c => val_main_v16 (F := Ideal) (X m c) (G m c) (W m c), fun c => val_main_v18 (F := Ideal) (X m c) (G m c), (θ_run Cert.InFwdIdeal.defs _ _).mono (fun r h c => ?_) (Cert.InFwdIdeal.Value.run_blocks m g),
    (θ_run Cert.InFwdRefIdeal.defs _ _).mono (fun r h c => ?_) (Cert.InFwdRefIdeal.Value.run m' g')⟩
  · obtain ⟨h0, h1, hk⟩ := h c
    exact ⟨h0.trans (final_proj m c), h1.trans (final_u m c), hk⟩
  · obtain ⟨h0, h1, hk⟩ := h c
    obtain ⟨a0, a1, a2⟩ := hm c
    refine ⟨h0.trans ?_, h1.trans ?_, hk⟩
    · rw [Cert.InFwdRefIdeal.Read.val_main_v16_eq, a0, a1, a2]
    · rw [Cert.InFwdRefIdeal.Read.val_main_v18_eq, a0, a1]

end Cert.Proof.In

namespace Cert.OutFwdIdeal.Closed

open Cert.OutFwdIdeal Cert.OutFwdIdeal.Gen Cert.OutFwdRefIdeal.Read

variable (m : (ℓ : Loc nD τ sig) → Buf (Elt Ideal) ℓ) (c : Dev nD)

abbrev Y : FVec Ideal S1x2048x1024 .f32 := m ((c : Thread nD τ).loc main_arg0)
abbrev W : FVec Ideal S1x1024x1024 .f32 := m ((c : Thread nD τ).loc main_arg1)
abbrev X : FVec Ideal S1x2048x1024 .f32 := m ((c : Thread nD τ).loc main_arg2)
abbrev G : FVec Ideal S1x1024 .f32 := m ((c : Thread nD τ).loc main_arg3)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem final_h : (dats m 0 c).arrAt 4 (cfgs 0).N = val_main_v17 (F := Ideal) (Y m c) (W m c) (X m c) := by
  refine (dats m 0 c).arrAt_eq_of_covers 4 _ (by decide +kernel) fun t _ y => ?_
  blk_simp
  rw [after0_4]; frame_out
  pointwise [k0_pay1, k0_pay2, val_main_v17, val_main_v2, val_main_v1, val_main_v0]
  blk_point [iblk, V, idx t]

theorem final_u : (dats m 0 c).arrAt 5 (cfgs 0).N = val_main_v19 (F := Ideal) (Y m c) (W m c) (X m c) (G m c) := by
  refine (dats m 0 c).arrAt_eq_of_covers 5 _ (by decide +kernel) fun t _ y => ?_
  blk_simp
  rw [after0_5]; frame_out
  pointwise [k0_pay1, k0_pay3, val_main_v19, val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.OutFwdIdeal.Closed

namespace Cert.Proof.Out

open Cert.OutFwdIdeal.Closed Cert.OutFwdRefIdeal.Read

theorem frame_p : Cert.quiescent_OutFwd := fun m ρ _ => Cert.OutFwd.Gen.frame m ρ
theorem frame_pi : Cert.quiescent_OutFwdIdeal := fun m ρ _ => Cert.OutFwdIdeal.Gen.frame m ρ
theorem frame_ri : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run (F := Ideal) m ρ)
theorem preserves : Cert.preserves_OutFwd_OutFwdIdeal := trivial

theorem value : Cert.algebraic_OutFwdIdeal_OutFwdRefIdeal := by
  intro m g m' g' _ hm
  refine ⟨fun c => val_main_v17 (F := Ideal) (Y m c) (W m c) (X m c), fun c => val_main_v19 (F := Ideal) (Y m c) (W m c) (X m c) (G m c), (θ_run Cert.OutFwdIdeal.defs _ _).mono (fun r h c => ?_) (Cert.OutFwdIdeal.Value.run_blocks m g),
    (θ_run Cert.OutFwdRefIdeal.defs _ _).mono (fun r h c => ?_) (Cert.OutFwdRefIdeal.Value.run m' g')⟩
  · obtain ⟨h0, h1, hk⟩ := h c
    exact ⟨h0.trans (final_h m c), h1.trans (final_u m c), hk⟩
  · obtain ⟨h0, h1, hk⟩ := h c
    obtain ⟨a0, a1, a2, a3⟩ := hm c
    refine ⟨h0.trans ?_, h1.trans ?_, hk⟩
    · rw [Cert.OutFwdRefIdeal.Read.val_main_v17_eq, a0, a1, a2]
    · rw [Cert.OutFwdRefIdeal.Read.val_main_v19_eq, a0, a1, a2, a3]

end Cert.Proof.Out

end
-- ==== Proof.Products.lean ====
/- The plain products. Each point stores one block of the reference's product. -/
module

public import proofs.«01_k».proof.Defs
public import proofs.«01_k».proof.Proof.Gen.UpFwd.Frame
public import proofs.«01_k».proof.Proof.Gen.UpFwdIdeal.Value
public import proofs.«01_k».proof.Proof.Gen.UpFwdRefIdeal.Read
public import proofs.«01_k».proof.Proof.Gen.DownBwd.Frame
public import proofs.«01_k».proof.Proof.Gen.DownBwdIdeal.Value
public import proofs.«01_k».proof.Proof.Gen.DownRefIdeal.Read
public import proofs.«01_k».proof.Proof.Gen.OutBwd.Frame
public import proofs.«01_k».proof.Proof.Gen.OutBwdIdeal.Value
public import proofs.«01_k».proof.Proof.Gen.OutRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFwdIdeal.Closed

open Cert.UpFwdIdeal Cert.UpFwdIdeal.Gen Cert.UpFwdRefIdeal.Read

variable (m : (ℓ : Loc nD τ sig) → Buf (Elt Ideal) ℓ) (c : Dev nD)

abbrev U : FVec Ideal S1x2048x1024 .f32 := m ((c : Thread nD τ).loc main_arg0)
abbrev W : FVec Ideal S1x1024x5632 .f32 := m ((c : Thread nD τ).loc main_arg1)

theorem idx : ∀ t : Fin cfg0.N, win0_0.index t = ![0, 0] ∧ win0_1.index t = ![t.val, 0] ∧ win0_2.index t = ![0, t.val] :=
  (by decide +kernel : ∀ t : Fin grid0.N, _)

theorem final : (dats m 0 c).arrAt 2 (cfgs 0).N = val_main_v3 (F := Ideal) (U m c) (W m c) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, idx t]

end Cert.UpFwdIdeal.Closed

namespace Cert.Proof.UpFwd

open Cert.UpFwdIdeal.Closed Cert.UpFwdRefIdeal.Read

theorem frame_p : Cert.quiescent_UpFwd := fun m ρ _ => Cert.UpFwd.Gen.frame m ρ
theorem frame_pi : Cert.quiescent_UpFwdIdeal := fun m ρ _ => Cert.UpFwdIdeal.Gen.frame m ρ
theorem frame_ri : Cert.quiescent_UpFwdRefIdeal := fun m ρ _ =>
  (θ_run Cert.UpFwdRefIdeal.defs _ _).mono (fun r h => ⟨fun c => (h c).2, sem_eq_zero_of_no_sems (by decide) r.2⟩)
    (Cert.UpFwdRefIdeal.Value.run (F := Ideal) m ρ)
theorem preserves : Cert.preserves_UpFwd_UpFwdIdeal := trivial

theorem value : Cert.algebraic_UpFwdIdeal_UpFwdRefIdeal := by
  intro m g m' g' _ hm
  refine ⟨fun c => val_main_v3 (F := Ideal) (U m c) (W m c), (θ_run Cert.UpFwdIdeal.defs _ _).mono (fun r h c => ?_) (Cert.UpFwdIdeal.Value.run_blocks m g),
    (θ_run Cert.UpFwdRefIdeal.defs _ _).mono (fun r h c => ?_) (Cert.UpFwdRefIdeal.Value.run m' g')⟩
  · obtain ⟨h0, hk⟩ := h c
    exact ⟨h0.trans (final m c), hk⟩
  · obtain ⟨h0, hk⟩ := h c
    obtain ⟨a0, a1⟩ := hm c
    refine ⟨h0.trans ?_, hk⟩
    · rw [Cert.UpFwdRefIdeal.Read.val_main_v3_eq, a0, a1]

end Cert.Proof.UpFwd

namespace Cert.DownBwdIdeal.Closed

open Cert.DownBwdIdeal Cert.DownBwdIdeal.Gen Cert.DownRefIdeal.Read

variable (m : (ℓ : Loc nD τ sig) → Buf (Elt Ideal) ℓ) (c : Dev nD)

abbrev W : FVec Ideal S1x2816x1024 .f32 := m ((c : Thread nD τ).loc main_arg0)
abbrev D : FVec Ideal S1x2048x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = val_main_v5 (F := Ideal) (W m c) (D m c) := by
  refine (dats m 0 c).arrAt_eq_of_covers 2 _ (by decide +kernel) fun t _ y => ?_
  blk_simp
  rw [after0_2]; frame_out
  pointwise [k0_pay1, val_main_v5, val_main_v4, val_main_v3, val_main_v2, val_main_v1]
  blk_point [iblk, V, idx t]

end Cert.DownBwdIdeal.Closed

namespace Cert.Proof.DownBwd

open Cert.DownBwdIdeal.Closed Cert.DownRefIdeal.Read

theorem frame_p : Cert.quiescent_DownBwd := fun m ρ _ => Cert.DownBwd.Gen.frame m ρ
theorem frame_pi : Cert.quiescent_DownBwdIdeal := fun m ρ _ => Cert.DownBwdIdeal.Gen.frame m ρ
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)
theorem preserves : Cert.preserves_DownBwd_DownBwdIdeal := trivial

theorem value : Cert.algebraic_DownBwdIdeal_DownRefIdeal := by
  intro m g m' g' _ hm
  refine ⟨fun c => val_main_v5 (F := Ideal) (W m c) (D m c), (θ_run Cert.DownBwdIdeal.defs _ _).mono (fun r h c => ?_) (Cert.DownBwdIdeal.Value.run_blocks m g),
    (θ_run Cert.DownRefIdeal.defs _ _).mono (fun r h c => ?_) (Cert.DownRefIdeal.Value.run m' g')⟩
  · obtain ⟨h0, hk⟩ := h c
    exact ⟨h0.trans (final m c), hk⟩
  · obtain ⟨h0, hk⟩ := h c
    obtain ⟨a0, a1⟩ := hm c
    refine ⟨h0.trans ?_, hk⟩
    · rw [Cert.DownRefIdeal.Read.val_main_v5_eq, a0, a1]

end Cert.Proof.DownBwd

namespace Cert.OutBwdIdeal.Closed

open Cert.OutBwdIdeal Cert.OutBwdIdeal.Gen Cert.OutRefIdeal.Read

variable (m : (ℓ : Loc nD τ sig) → Buf (Elt Ideal) ℓ) (c : Dev nD)

abbrev W : FVec Ideal S1x1024x1024 .f32 := m ((c : Thread nD τ).loc main_arg0)
abbrev D : FVec Ideal S1x2048x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = val_main_v4 (F := Ideal) (W m c) (D m c) := by
  refine (dats m 0 c).arrAt_eq_of_covers 2 _ (by decide +kernel) fun t _ y => ?_
  blk_simp
  rw [after0_2]; frame_out
  pointwise [k0_pay1, val_main_v4, val_main_v3, val_main_v2, val_main_v1]
  blk_point [iblk, V, idx t]

end Cert.OutBwdIdeal.Closed

namespace Cert.Proof.OutBwd

open Cert.OutBwdIdeal.Closed Cert.OutRefIdeal.Read

theorem frame_p : Cert.quiescent_OutBwd := fun m ρ _ => Cert.OutBwd.Gen.frame m ρ
theorem frame_pi : Cert.quiescent_OutBwdIdeal := fun m ρ _ => Cert.OutBwdIdeal.Gen.frame m ρ
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)
theorem preserves : Cert.preserves_OutBwd_OutBwdIdeal := trivial

theorem value : Cert.algebraic_OutBwdIdeal_OutRefIdeal := by
  intro m g m' g' _ hm
  refine ⟨fun c => val_main_v4 (F := Ideal) (W m c) (D m c), (θ_run Cert.OutBwdIdeal.defs _ _).mono (fun r h c => ?_) (Cert.OutBwdIdeal.Value.run_blocks m g),
    (θ_run Cert.OutRefIdeal.defs _ _).mono (fun r h c => ?_) (Cert.OutRefIdeal.Value.run m' g')⟩
  · obtain ⟨h0, hk⟩ := h c
    exact ⟨h0.trans (final m c), hk⟩
  · obtain ⟨h0, hk⟩ := h c
    obtain ⟨a0, a1⟩ := hm c
    refine ⟨h0.trans ?_, hk⟩
    · rw [Cert.OutRefIdeal.Read.val_main_v4_eq, a0, a1]

end Cert.Proof.OutBwd

end
-- ==== Proof.UpWgradValue.lean ====
/- `wgrad_up`: the up product's weight gradient. The first points read the gate's half of the cotangent, the last the value's. -/
module

public import proofs.«01_k».proof.Defs
public import proofs.«01_k».proof.Proof.Gen.UpWgrad.Frame
public import proofs.«01_k».proof.Proof.Gen.UpWgradIdeal.Value
public import proofs.«01_k».proof.Proof.Gen.UpWgradRefIdeal.Read
public import Idealize.ShloMosaic.Lib.Quiescent
public import Idealize.ShloMosaic.Lib.Pointwise
public import Idealize.ShloMosaic.Lib.TwoAxisContraction
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpWgradRefIdeal.Closed

open Cert.UpWgradRefIdeal Cert.UpWgradRefIdeal.Gen Cert.UpWgradRefIdeal.Read

variable (u : FVec Ideal S1x2048x1024 .f32) (g : FVec Ideal S1x2048x5632 .f32)

/-- The gradient at feature `f`, column `d`. -/
def dw (f : Fin 5632) (d : Fin 1024) : EReal := ∑ k : Fin 2048, g (ix3 0 k f) * u (ix3 0 k d)

theorem ref_dot (f : Fin 5632) (d : Fin 1024) : val_main_v2 (F := Ideal) u g (ix2 f d) = dw u g f d := by
  let D := dot_S1x2048x5632_S1x2048x1024_S5632x1024_01_01_2_2_n_n
  unfold val_main_v2 Host.dotGeneral
  rw [Ideal.dotGeneral_apply, ValueIdx.sum_contr2 D 1 2048 rfl rfl rfl, Fin.sum_univ_one]
  refine Finset.sum_congr rfl fun k _ => ?_
  have h0 := ValueIdx.contrEquiv2_symm_val0 D 1 2048 rfl rfl rfl (0, k)
  have h1 := ValueIdx.contrEquiv2_symm_val1 D 1 2048 rfl rfl rfl (0, k)
  have el : D.lhsIdx (ix2 f d) ((ValueIdx.contrEquiv2 D 1 2048 rfl rfl rfl).symm (0, k)) = ix3 0 k f := by
    funext a; apply Fin.ext
    match a with
    | ⟨0, _⟩ => exact h0
    | ⟨1, _⟩ => exact h1
    | ⟨2, _⟩ => rfl
  have er : D.rhsIdx (ix2 f d) ((ValueIdx.contrEquiv2 D 1 2048 rfl rfl rfl).symm (0, k)) = ix3 0 k d := by
    funext a; apply Fin.ext
    match a with
    | ⟨0, _⟩ => exact h0
    | ⟨1, _⟩ => exact h1
    | ⟨2, _⟩ => rfl
  exact congrArg₂ (· * ·) (congrArg g el) (congrArg u er)

theorem ref_dw (f : Fin 5632) (d : Fin 1024) : val_main_v5 (F := Ideal) u g (ix2 f d) = dw u g f d := by
  refine Eq.trans ?_ (ref_dot u g f d)
  rw [val_main_v5_apply, val_main_v4_apply, val_main_v3_apply]
  exact congrArg (val_main_v2 (F := Ideal) u g) (by idx_ext)

end Cert.UpWgradRefIdeal.Closed

namespace Cert.UpWgradIdeal.Closed

open Cert.UpWgradIdeal Cert.UpWgradIdeal.Gen

open Cert.UpWgradRefIdeal.Closed (dw)

variable (m : (ℓ : Loc nD τ sig) → Buf (Elt Ideal) ℓ) (c : Dev nD)

abbrev U : FVec Ideal S1x2048x1024 .f32 := m ((c : Thread nD τ).loc main_arg0)
abbrev G : FVec Ideal S1x2048x5632 .f32 := m ((c : Thread nD τ).loc main_arg1)

theorem idx : ∀ t : Fin cfg0.N, win0_0.index t = ![0, min t.val 1] ∧ win0_1.index t = ![0, t.val - 2]
    ∧ win0_2.index t = ![0, 0] ∧ win0_3.index t = ![t.val, 0] :=
  (by decide +kernel : ∀ t : Fin grid0.N, _)

theorem V_v2 : V m c main_v2 = truncf .bf16 (shapeCast S2048x2816
    (extractStridedSlice S1x2048x2816 ![0, 0, 0] (G m c) slices_S1x2048x5632_S1x2048x2816_0_0_0)
      shapeCasts_S1x2048x2816_S2048x2816) bitsLt_bf16_f32 := by
  unfold V; after_results <;> rfl

theorem V_v5 : V m c main_v5 = truncf .bf16 (shapeCast S2048x2816
    (extractStridedSlice S1x2048x2816 ![0, 0, 2816] (G m c) slices_S1x2048x5632_S1x2048x2816_0_0_2816)
      shapeCasts_S1x2048x2816_S2048x2816) bitsLt_bf16_f32 := by
  unfold V; after_results <;> rfl

theorem V_v7 : V m c main_v7 = truncf .bf16 (shapeCast S2048x1024 (U m c) shapeCasts_S1x2048x1024_S2048x1024) bitsLt_bf16_f32 := by
  unfold V; after_results <;> rfl

variable (t : Fin cfg0.N)

/-- Feature `p` of point `t`'s block, as a feature of the arrays. -/
def feat (p : Fin 1408) : Fin 5632 := ⟨t.val * 1408 + p, by have := lt_of_lt_of_eq t.isLt N_0; omega⟩

theorem blk_g (h : t.val < 2) (k : Fin 2048) (p : Fin 1408) :
    (show FVec Ideal S2048x1408 .bf16 from iblk m c 0 t) (ix2 k p) = G m c (ix3 0 k (feat t p)) := by
  refine (congrFun (V_v2 m c) _).trans ?_
  rw [show (win0_0.blk t).view.emb (ix2 k p) = ix2 k ⟨t.val * 1408 + p, by omega⟩ by
    blk_ext [idx t, show min t.val 1 = t.val by omega]]
  pointwise [feat]

theorem blk_v (h : 2 ≤ t.val) (k : Fin 2048) (p : Fin 1408) :
    (show FVec Ideal S2048x1408 .bf16 from iblk m c 1 t) (ix2 k p) = G m c (ix3 0 k (feat t p)) := by
  have ht := lt_of_lt_of_eq t.isLt N_0
  refine (congrFun (V_v5 m c) _).trans ?_
  rw [show (win0_1.blk t).view.emb (ix2 k p) = ix2 k ⟨(t.val - 2) * 1408 + p, by omega⟩ by blk_ext [idx t]]
  pointwise
  exact congrArg (G m c) (by unfold feat; idx_ext)

theorem blk_u (k : Fin 2048) (d : Fin 1024) :
    (show FVec Ideal S2048x1024 .bf16 from iblk m c 2 t) (ix2 k d) = U m c (ix3 0 k d) := by
  refine (congrFun (V_v7 m c) _).trans ?_
  rw [show (win0_2.blk t).view.emb (ix2 k d) = ix2 k d by blk_ext [idx t]]
  pointwise

theorem tile (a : FVec Ideal S2048x1408 .bf16) (b : FVec Ideal S2048x1024 .bf16) (p : Fin 1408) (d : Fin 1024) :
    k0_pay1 (F := Ideal) a b (ix2 p d) = ∑ k : Fin 2048, a (ix2 k p) * b (ix2 k d) := by
  pointwise [k0_pay1]

theorem outs (y : S1408x1024.Idx) : outsAt0 m c t.val t.isLt y = dw (U m c) (G m c) (feat t (y 0)) (y 1) := by
  idx_vars y
  by_cases h : t.val < 2
  · rw [outsAt0_A m c t h (by omega)]; frame_out
    exact (tile _ _ _ _).trans (Finset.sum_congr rfl fun k _ => congrArg₂ (· * ·) (blk_g m c t h k _) (blk_u m c t k _))
  · rw [outsAt0_B m c t h (by omega)]; frame_out
    exact (tile _ _ _ _).trans (Finset.sum_congr rfl fun k _ => congrArg₂ (· * ·) (blk_v m c t (by omega) k _) (blk_u m c t k _))

/-- The gradient, as an array. -/
def DW : FVec Ideal S5632x1024 .bf16 := fun i => dw (U m c) (G m c) (i 0) (i 1)

theorem final : (dats m 0 c).arrAt 3 (cfgs 0).N = DW m c := by
  refine (dats m 0 c).arrAt_eq_of_covers 3 _ (by decide +kernel) fun t _ y => ?_
  blk_simp
  rw [after0_3]
  refine (outs m c t y).trans ?_
  exact congrArg₂ (dw (U m c) (G m c)) (Fin.ext (by unfold feat; blk_simp [idx t])) (Fin.ext (by blk_simp [idx t]))

end Cert.UpWgradIdeal.Closed

namespace Cert.Proof.UpWgrad

open Cert.UpWgradIdeal.Closed

theorem frame_p : Cert.quiescent_UpWgrad := fun m ρ _ => Cert.UpWgrad.Gen.frame m ρ
theorem frame_pi : Cert.quiescent_UpWgradIdeal := fun m ρ _ => Cert.UpWgradIdeal.Gen.frame m ρ
theorem frame_ri : Cert.quiescent_UpWgradRefIdeal := fun m ρ _ =>
  (θ_run Cert.UpWgradRefIdeal.defs _ _).mono (fun r h => ⟨fun c => (h c).2, sem_eq_zero_of_no_sems (by decide) r.2⟩)
    (Cert.UpWgradRefIdeal.Value.run (F := Ideal) m ρ)
theorem preserves : Cert.preserves_UpWgrad_UpWgradIdeal := trivial

theorem value : Cert.algebraic_UpWgradIdeal_UpWgradRefIdeal := by
  intro m g m' g' _ hm
  refine ⟨DW m, (θ_run Cert.UpWgradIdeal.defs _ _).mono (fun r h c => ?_) (Cert.UpWgradIdeal.Value.run_blocks m g),
    (θ_run Cert.UpWgradRefIdeal.defs _ _).mono (fun r h c => ?_) (Cert.UpWgradRefIdeal.Value.run m' g')⟩
  · obtain ⟨h0, hk⟩ := h c
    exact ⟨h0.trans (final m c), hk⟩
  · obtain ⟨h0, hk⟩ := h c
    obtain ⟨a0, a1⟩ := hm c
    refine ⟨h0.trans ?_, hk⟩
    rw [Cert.UpWgradRefIdeal.Read.val_main_v5_eq, a0, a1]
    funext i; idx_vars i
    exact Cert.UpWgradRefIdeal.Closed.ref_dw ..

end Cert.Proof.UpWgrad

end
-- ==== Proof.AdamValue.lean ====
/- The optimiser's call at the down weight's shard: its blocks are rows of the arrays, and every element is the
   reference's element. -/
module

public import proofs.«01_k».proof.Defs
public import proofs.«01_k».proof.Proof.Gen.Adam.Frame
public import proofs.«01_k».proof.Proof.Gen.AdamIdeal.Value
public import proofs.«01_k».proof.Proof.Gen.AdamRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamIdeal.Closed

open Cert.AdamIdeal Cert.AdamIdeal.Gen Cert.AdamRefIdeal.Read

variable (m : (ℓ : Loc nD τ sig) → Buf (Elt Ideal) ℓ) (c : Dev nD)

/-- The arguments' arrays: the weight, its gradient and the two moments. -/
abbrev W : FVec Ideal S1x704x1024 .f32 := m ((c : Thread nD τ).loc main_arg0)
abbrev G : FVec Ideal S1x704x1024 .f32 := m ((c : Thread nD τ).loc main_arg1)
abbrev M : FVec Ideal S1x704x1024 .f32 := m ((c : Thread nD τ).loc main_arg2)
abbrev Q : FVec Ideal S1x704x1024 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

theorem final_m : (dats m 0 c).arrAt 6 (cfgs 0).N = val_main_v25 (F := Ideal) (G m c) (M m c) := by
  refine (dats m 0 c).arrAt_eq_of_covers 6 _ (by decide +kernel) fun t _ y => ?_
  blk_simp
  rw [after0_6]; frame_out
  pointwise [k0_pay2, k0_pay4, k0_pay6, val_main_v25, val_main_v4, val_main_v3, val_main_v2, val_main_v1, val_main_v0, val_main_cst, val_main_cst_0]
  blk_point [iblk, V, idx t]

theorem final_v : (dats m 0 c).arrAt 7 (cfgs 0).N = val_main_v26 (F := Ideal) (G m c) (Q m c) := by
  refine (dats m 0 c).arrAt_eq_of_covers 7 _ (by decide +kernel) fun t _ y => ?_
  blk_simp
  rw [after0_7]; frame_out
  pointwise [k0_pay3, k0_pay4, k0_pay7, val_main_v26, val_main_v10, val_main_v9, val_main_v8, val_main_v7, val_main_v6, val_main_v5, val_main_cst_1, val_main_cst_2]
  blk_point [iblk, V, idx t]

theorem final_d : (dats m 0 c).arrAt 5 (cfgs 0).N = val_main_v24 (F := Ideal) (W m c) (G m c) (M m c) (Q m c) := by
  refine (dats m 0 c).arrAt_eq_of_covers 5 _ (by decide +kernel) fun t _ y => ?_
  blk_simp
  rw [after0_5]; frame_out
  pointwise [k0_pay1, k0_pay4, k0_pay6, k0_pay7, k0_pay8, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  blk_point [iblk, V, idx t]

end Cert.AdamIdeal.Closed

namespace Cert.Proof.Adam

open Cert.AdamIdeal.Closed Cert.AdamRefIdeal.Read

theorem frame_p : Cert.quiescent_Adam := fun m ρ _ => Cert.Adam.Gen.frame m ρ
theorem frame_pi : Cert.quiescent_AdamIdeal := fun m ρ _ => Cert.AdamIdeal.Gen.frame m ρ
theorem frame_ri : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)
theorem preserves : Cert.preserves_Adam_AdamIdeal := trivial

theorem value : Cert.algebraic_AdamIdeal_AdamRefIdeal := by
  intro m g m' g' _ hm
  refine ⟨fun c => val_main_v24 (F := Ideal) (W m c) (G m c) (M m c) (Q m c), fun c => val_main_v25 (F := Ideal) (G m c) (M m c),
    fun c => val_main_v26 (F := Ideal) (G m c) (Q m c), (θ_run Cert.AdamIdeal.defs _ _).mono (fun r h c => ?_) (Cert.AdamIdeal.Value.run_blocks m g),
    (θ_run Cert.AdamRefIdeal.defs _ _).mono (fun r h c => ?_) (Cert.AdamRefIdeal.Value.run m' g')⟩
  · obtain ⟨_, h1, h2, h3, hk⟩ := h c
    exact ⟨h1.trans (final_d m c), h2.trans (final_m m c), h3.trans (final_v m c), hk⟩
  · obtain ⟨h0, h1, h2, hk⟩ := h c
    obtain ⟨a0, a1, a2, a3⟩ := hm c
    refine ⟨h0.trans ?_, h1.trans ?_, h2.trans ?_, hk⟩
    · rw [Cert.AdamRefIdeal.Read.val_main_v24_eq, a0, a1, a2, a3]
    · rw [Cert.AdamRefIdeal.Read.val_main_v25_eq, a1, a2]
    · rw [Cert.AdamRefIdeal.Read.val_main_v26_eq, a1, a3]

end Cert.Proof.Adam

end
-- ==== Proof.SumValue.lean ====
/- `final_sum`: the chip's own piece of a gradient and the three from the other chips, added block of rows by block of rows
   into the slot of the output that the prefetched table names; the host cuts that slot out. -/
module

public import proofs.«01_k».proof.Defs
public import proofs.«01_k».proof.Proof.Gen.FinalSum.Frame
public import proofs.«01_k».proof.Proof.Gen.FinalSumIdeal.Frame
public import proofs.«01_k».proof.Proof.Gen.FinalRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalSum.Closed

open Cert.FinalSum Cert.FinalSum.Gen

set_option backward.proofsInPublic true in
/-- The table the host fills: one word, zero. -/
def zeros : pre0.Contents (Elt Bits) := fun | ⟨0, _⟩ => fun _ => 0#32 | ⟨_ + 1, h⟩ => absurd h (by simp)

theorem tbl_eq (m : (ℓ : Loc nD τ sig) → Buf (Elt Bits) ℓ) : tbl m = zeros := by
  funext j
  match j with
  | ⟨0, _⟩ =>
    show V m 0 main_v0 = _
    unfold V; after_results <;> rfl

theorem ok (m : (ℓ : Loc nD τ sig) → Buf (Elt Bits) ℓ) : Ok m := by
  unfold Ok; rw [tbl_eq m]; decide

end Cert.FinalSum.Closed

namespace Cert.FinalSumIdeal.Closed

open Cert.FinalSumIdeal Cert.FinalSumIdeal.Gen Cert.FinalRefIdeal.Read

variable (m : (ℓ : Loc nD τ sig) → Buf (Elt Ideal) ℓ) (c : Dev nD)

set_option backward.proofsInPublic true in
/-- The table the host fills, at the ideal instance. -/
def zeros : pre0.Contents (Elt Ideal) := fun | ⟨0, _⟩ => fun _ => 0#32 | ⟨_ + 1, h⟩ => absurd h (by simp)

theorem tbl_eq : tbl m = zeros := by
  funext j
  match j with
  | ⟨0, _⟩ =>
    show V m 0 main_v0 = _
    unfold V; after_results <;> rfl

theorem ok_zeros : ok0 zeros := by decide

theorem ok : Ok m := by
  unfold Ok; rw [tbl_eq m]; exact ok_zeros

abbrev Own : FVec Ideal S704x1024 .f32 := m ((c : Thread nD τ).loc main_arg0)
abbrev Got : FVec Ideal S3x704x1024 .bf16 := m ((c : Thread nD τ).loc main_arg1)

/-- The written blocks are those of slot 0. -/
theorem covers (a : (pcfg0 (F := Ideal)).Adm) (h : a.1 = zeros) : ((cfg0 a).win 2).CoversWhere fun β => β (0 : Fin 3) = 0 := by
  obtain rfl : a = ⟨zeros, ok_zeros⟩ := Subtype.ext h
  decide +kernel

theorem idx_of (a : (pcfg0 (F := Ideal)).Adm) (h : a.1 = zeros) (t : Fin (cfg0 a).N) :
    ((cfg0 a).win 0).index t = ![t.val, 0] ∧ ((cfg0 a).win 1).index t = ![0, t.val, 0] ∧ ((cfg0 a).win 2).index t = ![0, t.val, 0] := by
  obtain rfl : a = ⟨zeros, ok_zeros⟩ := Subtype.ext h
  revert t
  decide +kernel

theorem idx (t : Fin (cfgM m (ok m)).N) : ((cfgM m (ok m)).win 0).index t = ![t.val, 0] ∧ ((cfgM m (ok m)).win 1).index t = ![0, t.val, 0]
    ∧ ((cfgM m (ok m)).win 2).index t = ![0, t.val, 0] :=
  idx_of (adm m (ok m)) (tbl_eq m) t

theorem own_blk (t : Fin (cfgM m (ok m)).N) (y : S176x1024.Idx) (h : t.val * 176 + (y 0).val < 704) :
    iblk m (ok m) c 0 t y = Own m c (ix2 ⟨t.val * 176 + (y 0).val, h⟩ (y 1)) := by
  unfold iblk
  blk_ext [idx m t, V]

theorem got_blk (t : Fin (cfgM m (ok m)).N) (y : S3x176x1024.Idx) (h : t.val * 176 + (y 1).val < 704) :
    iblk m (ok m) c 1 t y = Got m c (ix3 (y 0) ⟨t.val * 176 + (y 1).val, h⟩ (y 2)) := by
  unfold iblk
  blk_ext [idx m t, V]

/-- The sum, in whichever slot: what the reference's result holds at the row and the column. -/
def G : FVec Ideal S2x704x1024 .f32 := fun i => val_main_v11 (F := Ideal) (Own m c) (Got m c) (ix2 (i 1) (i 2))

/-- What a point stores, at the array's index `z` of the block's index `y`. -/
theorem point (t : Fin (cfgM m (ok m)).N) (y : S1x176x1024.Idx) (z : S2x704x1024.Idx) (e1 : (z 1).val = t.val * 176 + (y 1).val)
    (e2 : (z 2).val = (y 2).val) : outsAt0 m (ok m) c t y = G m c z := by
  have h : t.val * 176 + (y 1).val < 704 := e1 ▸ (z 1).isLt
  have r1 : (⟨t.val * 176 + (y 1).val, h⟩ : Fin 704) = z 1 := Fin.ext e1.symm
  have r2 : (y 2 : Fin 1024) = z 2 := Fin.ext e2.symm
  have o (x : S176x1024.Idx) : (ms0_0 m (ok m) t).view.read (Elt Ideal) ((hs0_0 m (ok m) t).unread (iblk m (ok m) c 0 t)) x
      = iblk m (ok m) c 0 t x := congrFun ((hs0_0 m (ok m) t).read_unread _) x
  have g (k : Fin 3) : (ms0_1 m (ok m) t).view.read (Elt Ideal) ((hs0_1 m (ok m) t).unread (iblk m (ok m) c 1 t)) (ix3 k (y 1) (y 2))
      = Got m c (ix3 k (z 1) (z 2)) :=
    (congrFun ((hs0_1 m (ok m) t).read_unread _) _).trans
      ((got_blk m c t (ix3 k (y 1) (y 2)) h).trans (congrArg (Got m c) (congrArg₂ (ix3 k) r1 r2)))
  unfold outsAt0; frame_out
  pointwise [k0_pay1, G, val_main_v11, val_main_v10, val_main_v9, val_main_v8, val_main_v7, val_main_v6, val_main_v5, val_main_v4, val_main_v3, val_main_v2, val_main_v1, val_main_v0]
  exact congrArg₂ (· + ·) (congrArg₂ (· + ·) (congrArg₂ (· + ·)
    ((o _).trans ((own_blk m c t (ix2 (y 1) (y 2)) h).trans (congrArg (Own m c) (congrArg₂ ix2 r1 r2)))) (g 0)) (g 1)) (g 2)

/-- The array's index of an index of the block a point stores. -/
def place (t : Fin (cfgM m (ok m)).N) (y : S1x176x1024.Idx) : S2x704x1024.Idx := (((cfgM m (ok m)).win 2).blk t).view.emb y

theorem place_1 (t : Fin (cfgM m (ok m)).N) (y : S1x176x1024.Idx) : (place m t y 1).val = t.val * 176 + (y 1).val := by
  refine (((cfgM m (ok m)).win 2).rect_emb_val t y (1 : Fin 3)).trans ?_
  rw [(idx m t).2.2]; rfl

theorem place_2 (t : Fin (cfgM m (ok m)).N) (y : S1x176x1024.Idx) : (place m t y 2).val = (y 2).val := by
  refine (((cfgM m (ok m)).win 2).rect_emb_val t y (2 : Fin 3)).trans ?_
  rw [(idx m t).2.2]; exact Nat.zero_add _

theorem stored (t : Fin (cfgM m (ok m)).N) (y : S1x176x1024.Idx) : (dats m (ok m) 0 c).after 2 t y = G m c (place m t y) :=
  (congrFun (after0_2 m (ok m) c t) y).trans (point m c t y _ (place_1 m t y) (place_2 m t y))

theorem final (i : S704x1024.Idx) : (dats m (ok m) 0 c).arrAt 2 (cfgM m (ok m)).N (ix3 0 (i 0) (i 1))
    = val_main_v11 (F := Ideal) (Own m c) (Got m c) (ix2 (i 0) (i 1)) := by
  have e := (dats m (ok m) 0 c).arrAt_apply_of_coversWhere 2 (G m c) (P := fun i : S2x704x1024.Idx => (i 0 : ℕ) / 1 = 0)
    (fun β => β (0 : Fin 3) = 0) (covers (adm m (ok m)) (tbl_eq m)) (fun t _ y => stored m c t y) (fun j => Iff.rfl) (ix3 0 (i 0) (i 1))
  exact e.trans (if_pos (show (0 : ℕ) / 1 = 0 from rfl))

end Cert.FinalSumIdeal.Closed

namespace Cert.Proof.Sum

open Cert.FinalSumIdeal.Closed Cert.FinalRefIdeal.Read

theorem frame_p : Cert.quiescent_FinalSum := fun m ρ _ => Cert.FinalSum.Gen.frame m ρ (Cert.FinalSum.Closed.ok m)
theorem frame_pi : Cert.quiescent_FinalSumIdeal := fun m ρ _ => Cert.FinalSumIdeal.Gen.frame m ρ (ok m)
theorem frame_ri : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)
theorem preserves : Cert.preserves_FinalSum_FinalSumIdeal := trivial

open Cert.FinalSumIdeal in
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v3) = val_main_v11 (F := Ideal) (Own m c) (Got m c) := by
  refine (θ_run defs _ _).mono (fun r h c => ((h c).2 main_v3 (show main_v3 ∈ Pipeline.restRefs sig spec0 by decide)).trans ?_) (Gen.run_main m g (ok m))
  unfold Pipeline.afterTail
  rw [show List.flatten [Gen.hostOps1] = Gen.hostOps1 by simp]
  after_results
  rw [show Pipeline.withArrays (Gen.cfgM m (ok m)).spec c (Gen.V0 m c) (fun w => (Gen.dats m (ok m) 0 c).arrAt w (Gen.cfgM m (ok m)).N)
    (Proc.tc.devRef main_v1) = (Gen.dats m (ok m) 0 c).arrAt 2 (Gen.cfgM m (ok m)).N from
      Pipeline.withArrays_arr spec0 (by decide) c _ _ 2]
  funext i
  idx_vars i
  refine Eq.trans ?_ (final m c (ix2 i0 i1))
  pointwise []

theorem value : Cert.algebraic_FinalSumIdeal_FinalRefIdeal := by
  intro m g m' g' _ hm
  refine ⟨fun c => val_main_v11 (F := Ideal) (Own m c) (Got m c), (θ_run Cert.FinalSumIdeal.defs _ _).mono (fun r h c => ⟨h.1 c, h.2.1 c⟩)
    (θ_run_and (run m g) (Cert.FinalSumIdeal.Gen.frame (F := Ideal) m g (ok m))),
    (θ_run Cert.FinalRefIdeal.defs _ _).mono (fun r h c => ?_) (Cert.FinalRefIdeal.Value.run m' g')⟩
  obtain ⟨h0, hk⟩ := h c
  obtain ⟨a0, a1⟩ := hm c
  refine ⟨h0.trans ?_, hk⟩
  rw [a0, a1]
  rfl

end Cert.Proof.Sum

end
-- ==== Proof.PackValue.lean ====
/- `pack_ffn`: the gradients of the feed-forward convolution (taps, bias) and the partial sums of the loss, laid side by side in the
   slot of the output that the prefetched table names; the host cuts that slot out. -/
module

public import proofs.«01_k».proof.Defs
public import proofs.«01_k».proof.Proof.Gen.Pack.Frame
public import proofs.«01_k».proof.Proof.Gen.PackIdeal.Frame
public import proofs.«01_k».proof.Proof.Gen.PackRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Pack.Closed

open Cert.Pack Cert.Pack.Gen

set_option backward.proofsInPublic true in
/-- The table the host fills: one word, zero. -/
def zeros : pre0.Contents (Elt Bits) := fun | ⟨0, _⟩ => fun _ => 0#32 | ⟨_ + 1, h⟩ => absurd h (by simp)

theorem tbl_eq (m : (ℓ : Loc nD τ sig) → Buf (Elt Bits) ℓ) : tbl m = zeros := by
  funext j
  match j with
  | ⟨0, _⟩ =>
    show V m 0 main_v3 = _
    unfold V; after_results <;> rfl

theorem ok (m : (ℓ : Loc nD τ sig) → Buf (Elt Bits) ℓ) : Ok m := by
  unfold Ok; rw [tbl_eq m]; decide

end Cert.Pack.Closed

namespace Cert.PackIdeal.Closed

open Cert.PackIdeal Cert.PackIdeal.Gen Cert.PackRefIdeal.Read

variable (m : (ℓ : Loc nD τ sig) → Buf (Elt Ideal) ℓ) (c : Dev nD)

set_option backward.proofsInPublic true in
/-- The table the host fills, at the ideal instance. -/
def zeros : pre0.Contents (Elt Ideal) := fun | ⟨0, _⟩ => fun _ => 0#32 | ⟨_ + 1, h⟩ => absurd h (by simp)

theorem tbl_eq : tbl m = zeros := by
  funext j
  match j with
  | ⟨0, _⟩ =>
    show V m 0 main_v3 = _
    unfold V; after_results <;> rfl

theorem ok_zeros : ok0 zeros := by decide

theorem ok : Ok m := by
  unfold Ok; rw [tbl_eq m]; exact ok_zeros

abbrev Taps : FVec Ideal S1x3x5632 .f32 := m ((c : Thread nD τ).loc main_arg0)
abbrev Bias : FVec Ideal S1x5632 .f32 := m ((c : Thread nD τ).loc main_arg1)
abbrev Sq : FVec Ideal S8x128 .f32 := m ((c : Thread nD τ).loc main_arg2)

/-- The written block is slot 0. -/
theorem covers (a : (pcfg0 (F := Ideal)).Adm) (h : a.1 = zeros) : ((cfg0 a).win 5).CoversWhere fun β => β (0 : Fin 3) = 0 := by
  obtain rfl : a = ⟨zeros, ok_zeros⟩ := Subtype.ext h
  decide +kernel

theorem idx_of (a : (pcfg0 (F := Ideal)).Adm) (h : a.1 = zeros) (t : Fin (cfg0 a).N) :
    ((cfg0 a).win 0).index t = ![0, 0] ∧ ((cfg0 a).win 1).index t = ![0, 0] ∧ ((cfg0 a).win 2).index t = ![0, 0]
      ∧ ((cfg0 a).win 3).index t = ![0, 0] ∧ ((cfg0 a).win 4).index t = ![0, 0] ∧ ((cfg0 a).win 5).index t = ![0, 0, 0] := by
  obtain rfl : a = ⟨zeros, ok_zeros⟩ := Subtype.ext h
  revert t
  decide +kernel

theorem idx (t : Fin (cfgM m (ok m)).N) : ((cfgM m (ok m)).win 0).index t = ![0, 0] ∧ ((cfgM m (ok m)).win 1).index t = ![0, 0]
      ∧ ((cfgM m (ok m)).win 2).index t = ![0, 0] ∧ ((cfgM m (ok m)).win 3).index t = ![0, 0] ∧ ((cfgM m (ok m)).win 4).index t = ![0, 0]
      ∧ ((cfgM m (ok m)).win 5).index t = ![0, 0, 0] :=
  idx_of (adm m (ok m)) (tbl_eq m) t

/-- The taps on eight rows, as the host lays them. -/
def rows (i : Fin 8) (j : Fin 5632) : Ideal .f32 := if h : i.val < 3 then Taps m c (ix3 0 ⟨i.val, h⟩ j) else 0

theorem host_v2 : V m c main_v2 = concatenate S8x5632 0 [⟨S3x5632, shapeCast S3x5632 (Taps m c) shapeCasts_S1x3x5632_S3x5632⟩,
    ⟨S5x5632, broadcastInDim S5x5632 ![] bcast_S_S5x5632 (constant (F := Ideal) S_ .f32 0x00000000#32)⟩] concatenates_S3x5632_S5x5632_S8x5632_d0 := by
  unfold V; after_results; rfl

theorem v2_at (i : Fin 8) (j : Fin 5632) : V m c main_v2 (ix2 i j) = rows m c i j := by
  rw [host_v2]; unfold rows
  pointwise []

theorem host_v4 : V m c main_v4 = extractStridedSlice S8x2816 ![0, 0] (V m c main_v2) slices_S8x5632_S8x2816_0_0 := by
  rw [host_v2]; unfold V; after_results; rfl

theorem host_v5 : V m c main_v5 = extractStridedSlice S8x2816 ![0, 2816] (V m c main_v2) slices_S8x5632_S8x2816_0_2816 := by
  rw [host_v2]; unfold V; after_results; rfl

theorem host_v6 : V m c main_v6 = extractStridedSlice S1x2816 ![0, 0] (Bias m c) slices_S1x5632_S1x2816_0_0 := by
  unfold V; simp only [V0, hostOps0, List.flatten_cons, List.flatten_nil, List.append_nil]; after_results

theorem host_v7 : V m c main_v7 = extractStridedSlice S1x2816 ![0, 2816] (Bias m c) slices_S1x5632_S1x2816_0_2816 := by
  unfold V; simp only [V0, hostOps0, List.flatten_cons, List.flatten_nil, List.append_nil]; after_results

theorem left_blk (t : Fin (cfgM m (ok m)).N) (p : Fin 8) (q : Fin 2816) (j : Fin 5632) (e : j.val = q.val) : iblk m (ok m) c 0 t (ix2 p q) = rows m c p j := by
  refine Eq.trans ?_ (v2_at m c p j)
  refine Eq.trans (b := V m c main_v4 (ix2 p q)) ?_ ?_
  · unfold iblk
    blk_ext [idx m t]
  · rw [host_v4]
    pointwise []
    exact congrArg (V m c main_v2) (congrArg (ix2 p) (Fin.ext (by simp [e])))

theorem right_blk (t : Fin (cfgM m (ok m)).N) (p : Fin 8) (q : Fin 2816) (j : Fin 5632) (e : j.val = 2816 + q.val) :
    iblk m (ok m) c 1 t (ix2 p q) = rows m c p j := by
  refine Eq.trans ?_ (v2_at m c p j)
  refine Eq.trans (b := V m c main_v5 (ix2 p q)) ?_ ?_
  · unfold iblk
    blk_ext [idx m t]
  · rw [host_v5]
    pointwise []
    exact congrArg (V m c main_v2) (congrArg (ix2 p) (Fin.ext (by simp [e])))

theorem bias_left (t : Fin (cfgM m (ok m)).N) (q : Fin 2816) (j : Fin 5632) (e : j.val = q.val) : iblk m (ok m) c 2 t (ix2 0 q) = Bias m c (ix2 0 j) := by
  refine Eq.trans (b := V m c main_v6 (ix2 0 q)) ?_ ?_
  · unfold iblk
    blk_ext [idx m t]
  · rw [host_v6]
    pointwise []
    exact congrArg (Bias m c) (congrArg (ix2 0) (Fin.ext (by simp [e])))

theorem bias_right (t : Fin (cfgM m (ok m)).N) (q : Fin 2816) (j : Fin 5632) (e : j.val = 2816 + q.val) :
    iblk m (ok m) c 3 t (ix2 0 q) = Bias m c (ix2 0 j) := by
  refine Eq.trans (b := V m c main_v7 (ix2 0 q)) ?_ ?_
  · unfold iblk
    blk_ext [idx m t]
  · rw [host_v7]
    pointwise []
    exact congrArg (Bias m c) (congrArg (ix2 0) (Fin.ext (by simp [e])))

theorem sq_blk (t : Fin (cfgM m (ok m)).N) (p : Fin 8) (q : Fin 128) : iblk m (ok m) c 4 t (ix2 p q) = Sq m c (ix2 p q) := by
  unfold iblk
  blk_ext [idx m t, V]

section Pieces

variable {off sz : Fin 3 → ℕ} (inb : ∀ a, off a + sz a ≤ S1x8x5760.size a) (w : FVec Ideal ⟨3, sz⟩ .f32)
    (L : List (View.Piece (Elt Ideal) S1x8x5760 .f32)) {z : S1x8x5760.Idx}

theorem skip (a : Fin 3) (h : ¬ ((z a).val < off a + sz a ∧ off a ≤ (z a).val)) :
    View.canon (⟨Rect.unit off sz inb, w⟩ :: L) z = View.canon L z :=
  View.canon_cons_of_not_mem _ _ fun hm => h ⟨(((Rect.mem_set_unit (inb := inb)).mp hm) a).2, (((Rect.mem_set_unit (inb := inb)).mp hm) a).1⟩

theorem hit (x : (⟨3, sz⟩ : Shape).Idx) (h : z = (Rect.unit off sz inb).emb x) :
    View.canon (⟨Rect.unit off sz inb, w⟩ :: L) z = w x := by
  rw [h]; exact View.canon_cons_emb _ _ _ _

end Pieces

theorem point (t : Fin (cfgM m (ok m)).N) (p : Fin 8) (q : Fin 5760) : outsAt0 m (ok m) c t (ix3 0 p q)
    = val_main_v3 (F := Ideal) (Taps m c) (Bias m c) (Sq m c) (ix2 p q) := by
  have o0 (x) : (ms0_0 m (ok m) t).view.read (Elt Ideal) ((hs0_0 m (ok m) t).unread (iblk m (ok m) c 0 t)) x
      = iblk m (ok m) c 0 t x := congrFun ((hs0_0 m (ok m) t).read_unread _) x
  have o1 (x) : (ms0_1 m (ok m) t).view.read (Elt Ideal) ((hs0_1 m (ok m) t).unread (iblk m (ok m) c 1 t)) x
      = iblk m (ok m) c 1 t x := congrFun ((hs0_1 m (ok m) t).read_unread _) x
  have o2 (x) : (ms0_2 m (ok m) t).view.read (Elt Ideal) ((hs0_2 m (ok m) t).unread (iblk m (ok m) c 2 t)) x
      = iblk m (ok m) c 2 t x := congrFun ((hs0_2 m (ok m) t).read_unread _) x
  have o3 (x) : (ms0_3 m (ok m) t).view.read (Elt Ideal) ((hs0_3 m (ok m) t).unread (iblk m (ok m) c 3 t)) x
      = iblk m (ok m) c 3 t x := congrFun ((hs0_3 m (ok m) t).read_unread _) x
  have o4 (x) : (ms0_4 m (ok m) t).view.read (Elt Ideal) ((hs0_4 m (ok m) t).unread (iblk m (ok m) c 4 t)) x
      = iblk m (ok m) c 4 t x := congrFun ((hs0_4 m (ok m) t).read_unread _) x
  unfold outsAt0; frame_out
  pointwise [val_main_v3, val_main_v2, val_main_v1, val_main_v0, val_main_cst]
  by_cases hq : q.val < 5632
  · rw [dif_pos hq]
    refine (skip _ _ _ (2 : Fin 3) (by simp; omega)).trans ?_
    by_cases h3 : p.val = 3
    · by_cases hh : q.val < 2816
      · refine (skip _ _ _ (2 : Fin 3) (by simp; omega)).trans ?_
        refine (hit _ _ _ (ix3 0 0 ⟨q.val, hh⟩) (by idx_ext)).trans ?_
        pointwise [k0_pay5]
        refine (o2 _).trans ((bias_left m c t _ ⟨q.val, hq⟩ rfl).trans ?_)
        simp [h3]; rfl
      · refine (hit _ _ _ (ix3 0 0 ⟨q.val - 2816, by omega⟩) (by idx_ext)).trans ?_
        pointwise [k0_pay6]
        refine (o3 _).trans ((bias_right m c t _ ⟨q.val, hq⟩ (by simp; omega)).trans ?_)
        simp [h3]; rfl
    · refine (skip _ _ _ (1 : Fin 3) (by simp; omega)).trans ((skip _ _ _ (1 : Fin 3) (by simp; omega)).trans ?_)
      refine Eq.trans (b := rows m c p ⟨q.val, hq⟩) ?_ ?_
      · by_cases hh : q.val < 2816
        · refine (skip _ _ _ (2 : Fin 3) (by simp; omega)).trans ?_
          refine (hit _ _ _ (ix3 0 p ⟨q.val, hh⟩) (by idx_ext)).trans ?_
          pointwise [k0_pay3]
          exact (o0 _).trans (left_blk m c t _ _ ⟨q.val, hq⟩ rfl)
        · refine (hit _ _ _ (ix3 0 p ⟨q.val - 2816, by omega⟩) (by idx_ext)).trans ?_
          pointwise [k0_pay4]
          exact (o1 _).trans (right_blk m c t _ _ ⟨q.val, hq⟩ (by simp; omega))
      · unfold rows
        by_cases hp : p.val < 3
        · simp [hp]
        · simp [hp, show ¬ p.val - 3 < 1 by omega]
  · rw [dif_neg hq]
    obtain ⟨r, hr⟩ : ∃ r : Fin 128, q.val = 5632 + r.val := ⟨⟨q.val - 5632, by omega⟩, by simp; omega⟩
    refine (hit _ _ _ (ix3 0 p r) (by idx_ext)).trans ?_
    pointwise [k0_pay1]
    refine (o4 _).trans ((sq_blk m c t _ _).trans (congrArg (Sq m c) (congrArg (ix2 p) (Fin.ext ?_))))
    simp [hr]

/-- The packed array, in whichever slot. -/
def G : FVec Ideal S8x8x5760 .f32 := fun i => val_main_v3 (F := Ideal) (Taps m c) (Bias m c) (Sq m c) (ix2 (i 1) (i 2))

/-- The array's index of an index of the block. -/
def place (t : Fin (cfgM m (ok m)).N) (y : S1x8x5760.Idx) : S8x8x5760.Idx := (((cfgM m (ok m)).win 5).blk t).view.emb y

theorem place_1 (t : Fin (cfgM m (ok m)).N) (y : S1x8x5760.Idx) : (place m t y 1).val = (y 1).val := by
  refine (((cfgM m (ok m)).win 5).rect_emb_val t y (1 : Fin 3)).trans ?_
  rw [(idx m t).2.2.2.2.2]; exact Nat.zero_add _

theorem place_2 (t : Fin (cfgM m (ok m)).N) (y : S1x8x5760.Idx) : (place m t y 2).val = (y 2).val := by
  refine (((cfgM m (ok m)).win 5).rect_emb_val t y (2 : Fin 3)).trans ?_
  rw [(idx m t).2.2.2.2.2]; exact Nat.zero_add _

theorem stored (t : Fin (cfgM m (ok m)).N) (y : S1x8x5760.Idx) : (dats m (ok m) 0 c).after 5 t y = G m c (place m t y) := by
  have e : y = ix3 0 (y 1) (y 2) := by idx_vars y; idx_ext
  refine (congrFun (after0_5 m (ok m) c t) y).trans ((congrArg (outsAt0 m (ok m) c t) e).trans ((point m c t (y 1) (y 2)).trans ?_))
  exact congrArg (val_main_v3 (F := Ideal) (Taps m c) (Bias m c) (Sq m c))
    (congrArg₂ ix2 (Fin.ext (place_1 m t y).symm) (Fin.ext (place_2 m t y).symm))

theorem final (i : S8x5760.Idx) : (dats m (ok m) 0 c).arrAt 5 (cfgM m (ok m)).N (ix3 0 (i 0) (i 1))
    = val_main_v3 (F := Ideal) (Taps m c) (Bias m c) (Sq m c) (ix2 (i 0) (i 1)) := by
  have e := (dats m (ok m) 0 c).arrAt_apply_of_coversWhere 5 (G m c) (P := fun i : S8x8x5760.Idx => (i 0 : ℕ) / 1 = 0)
    (fun β => β (0 : Fin 3) = 0) (covers (adm m (ok m)) (tbl_eq m)) (fun t _ y => stored m c t y) (fun j => Iff.rfl) (ix3 0 (i 0) (i 1))
  exact e.trans (if_pos (show (0 : ℕ) / 1 = 0 from rfl))

end Cert.PackIdeal.Closed

namespace Cert.Proof.Pack

open Cert.PackIdeal.Closed Cert.PackRefIdeal.Read

theorem frame_p : Cert.quiescent_Pack := fun m ρ _ => Cert.Pack.Gen.frame m ρ (Cert.Pack.Closed.ok m)
theorem frame_pi : Cert.quiescent_PackIdeal := fun m ρ _ => Cert.PackIdeal.Gen.frame m ρ (ok m)
theorem frame_ri : Cert.quiescent_PackRefIdeal := fun m ρ _ =>
  (θ_run Cert.PackRefIdeal.defs _ _).mono (fun r h => ⟨fun c => (h c).2, sem_eq_zero_of_no_sems (by decide) r.2⟩)
    (Cert.PackRefIdeal.Value.run (F := Ideal) m ρ)
theorem preserves : Cert.preserves_Pack_PackIdeal := trivial

open Cert.PackIdeal in
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v10) = val_main_v3 (F := Ideal) (Taps m c) (Bias m c) (Sq m c) := by
  refine (θ_run defs _ _).mono (fun r h c => ((h c).2 main_v10 (show main_v10 ∈ Pipeline.restRefs sig spec0 by decide)).trans ?_) (Gen.run_main m g (ok m))
  unfold Pipeline.afterTail
  rw [show List.flatten [Gen.hostOps1] = Gen.hostOps1 by simp]
  after_results
  rw [show Pipeline.withArrays (Gen.cfgM m (ok m)).spec c (Gen.V0 m c) (fun w => (Gen.dats m (ok m) 0 c).arrAt w (Gen.cfgM m (ok m)).N)
    (Proc.tc.devRef main_v8) = (Gen.dats m (ok m) 0 c).arrAt 5 (Gen.cfgM m (ok m)).N from
      Pipeline.withArrays_arr spec0 (by decide) c _ _ 5]
  funext i
  idx_vars i
  refine Eq.trans ?_ (final m c (ix2 i0 i1))
  pointwise []

theorem value : Cert.algebraic_PackIdeal_PackRefIdeal := by
  intro m g m' g' _ hm
  refine ⟨fun c => val_main_v3 (F := Ideal) (Taps m c) (Bias m c) (Sq m c), (θ_run Cert.PackIdeal.defs _ _).mono (fun r h c => ⟨h.1 c, h.2.1 c⟩)
    (θ_run_and (run m g) (Cert.PackIdeal.Gen.frame (F := Ideal) m g (ok m))),
    (θ_run Cert.PackRefIdeal.defs _ _).mono (fun r h c => ?_) (Cert.PackRefIdeal.Value.run m' g')⟩
  obtain ⟨h0, hk⟩ := h c
  obtain ⟨a0, a1, a2⟩ := hm c
  refine ⟨h0.trans ?_, hk⟩
  rw [a0, a1, a2]
  rfl

end Cert.Proof.Pack

end
-- ==== Proof.lean ====
module

public import proofs.«01_k».proof.Proof.Gen.UpBwdIdeal.Value
public import proofs.«01_k».proof.Proof.Gen.UpRefIdeal.Read
public import proofs.«01_k».proof.Proof.UpValue
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame

public import proofs.«01_k».proof.Proof.Gen.LossRefIdeal
public import proofs.«01_k».proof.Proof.Gen.LossRefIdeal.Read
public import proofs.«01_k».proof.Proof.LossValue
public import proofs.«01_k».proof.Proof.Gen.ActBwd
public import proofs.«01_k».proof.Proof.Gen.ActBwd.Skeleton
public import proofs.«01_k».proof.Proof.Gen.ActBwd.Launch
public import proofs.«01_k».proof.Proof.Gen.ActBwd.Points
public import proofs.«01_k».proof.Proof.Gen.ActBwd.Frame
public import proofs.«01_k».proof.Proof.Gen.ActBwdIdeal.Value
public import proofs.«01_k».proof.Proof.Gen.ActRefIdeal
public import proofs.«01_k».proof.Proof.Gen.ActRefIdeal.Read
public import proofs.«01_k».proof.Proof.Gen.Pre_act_finite
public import proofs.«01_k».proof.Proof.ActValue
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFwdRefIdeal
public import proofs.«01_k».proof.Proof.Gen.MixFwdRefIdeal.Read
public import proofs.«01_k».proof.Proof.FwdValue
public import proofs.«01_k».proof.Proof.NormProducts
public import proofs.«01_k».proof.Proof.Products
public import proofs.«01_k».proof.Proof.UpWgradValue
public import proofs.«01_k».proof.Proof.AdamValue
public import proofs.«01_k».proof.Proof.SumValue
public import proofs.«01_k».proof.Proof.PackValue

@[expose] public section

namespace Cert.Proof

theorem claim : Cert.Claim :=
  ⟨Cert.UpBwd.Gen.facts, Cert.UpBwdIdeal.Gen.facts, Cert.UpRefIdeal.Gen.facts, Cert.LossBwd.Gen.facts, Cert.LossBwdIdeal.Gen.facts, Cert.LossRefIdeal.Gen.facts, Cert.ActBwd.Gen.facts, Cert.ActBwdIdeal.Gen.facts, Cert.ActRefIdeal.Gen.facts, Cert.MixFwd.Gen.facts, Cert.MixFwdIdeal.Gen.facts, Cert.MixFwdRefIdeal.Gen.facts, Cert.InFwd.Gen.facts, Cert.InFwdIdeal.Gen.facts, Cert.InFwdRefIdeal.Gen.facts, Cert.OutFwd.Gen.facts, Cert.OutFwdIdeal.Gen.facts, Cert.OutFwdRefIdeal.Gen.facts, Cert.UpFwd.Gen.facts, Cert.UpFwdIdeal.Gen.facts, Cert.UpFwdRefIdeal.Gen.facts, Cert.DownBwd.Gen.facts, Cert.DownBwdIdeal.Gen.facts, Cert.DownRefIdeal.Gen.facts, Cert.OutBwd.Gen.facts, Cert.OutBwdIdeal.Gen.facts, Cert.OutRefIdeal.Gen.facts, Cert.UpWgrad.Gen.facts, Cert.UpWgradIdeal.Gen.facts, Cert.UpWgradRefIdeal.Gen.facts, Cert.Adam.Gen.facts, Cert.AdamIdeal.Gen.facts, Cert.AdamRefIdeal.Gen.facts, Cert.FinalSum.Gen.facts, Cert.FinalSumIdeal.Gen.facts, Cert.FinalRefIdeal.Gen.facts, Cert.Pack.Gen.facts, Cert.PackIdeal.Gen.facts, Cert.PackRefIdeal.Gen.facts, Cert.Pre_act_finite.Gen.facts,
    Up.frame_p, Up.frame_pi, Up.frame_ri, Loss.frame_p, Loss.frame_pi, Loss.frame_ri, Act.frame_p, Act.frame_pi, Act.frame_pi_pre, Act.frame_ri, Act.frame_ri_pre, Fwd.frame_p, Fwd.frame_pi, Fwd.frame_ri, In.frame_p, In.frame_pi, In.frame_ri, Out.frame_p, Out.frame_pi, Out.frame_ri, UpFwd.frame_p, UpFwd.frame_pi, UpFwd.frame_ri, DownBwd.frame_p, DownBwd.frame_pi, DownBwd.frame_ri, OutBwd.frame_p, OutBwd.frame_pi, OutBwd.frame_ri, UpWgrad.frame_p, UpWgrad.frame_pi, UpWgrad.frame_ri, Adam.frame_p, Adam.frame_pi, Adam.frame_ri, Sum.frame_p, Sum.frame_pi, Sum.frame_ri, Pack.frame_p, Pack.frame_pi, Pack.frame_ri, Up.preserves, Up.value, Loss.preserves, Loss.value, Act.preserves, Act.value, Fwd.preserves, Fwd.value, In.preserves, In.value, Out.preserves, Out.value, UpFwd.preserves, UpFwd.value, DownBwd.preserves, DownBwd.value, OutBwd.preserves, OutBwd.value, UpWgrad.preserves, UpWgrad.value, Adam.preserves, Adam.value, Sum.preserves, Sum.value, Pack.preserves, Pack.value⟩

end Cert.Proof

end
